-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x100x152 : Shape := ⟨4, ![4, 256, 100, 152]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S4x256x15200 : Shape := ⟨3, ![4, 256, 15200]⟩
abbrev S3x3x256x256 : Shape := ⟨4, ![3, 3, 256, 256]⟩
abbrev S9x256x256 : Shape := ⟨3, ![9, 256, 256]⟩
abbrev S15x256x1x1 : Shape := ⟨4, ![15, 256, 1, 1]⟩
abbrev S15x256 : Shape := ⟨2, ![15, 256]⟩
abbrev S_ : Shape := ⟨0, ![]⟩
abbrev S16x256 : Shape := ⟨2, ![16, 256]⟩
abbrev S15 : Shape := ⟨1, ![15]⟩
abbrev S16 : Shape := ⟨1, ![16]⟩
abbrev S16x1 : Shape := ⟨2, ![16, 1]⟩
abbrev S256x1 : Shape := ⟨2, ![256, 1]⟩
abbrev S4x15200x12 : Shape := ⟨3, ![4, 15200, 12]⟩
abbrev S4x15200x3 : Shape := ⟨3, ![4, 15200, 3]⟩
abbrev S1x256x15200 : Shape := ⟨3, ![1, 256, 15200]⟩
abbrev S1x3040x12 : Shape := ⟨3, ![1, 3040, 12]⟩
abbrev S1x3040x3 : Shape := ⟨3, ![1, 3040, 3]⟩
abbrev S256x15880 : Shape := ⟨2, ![256, 15880]⟩
abbrev S1x256x152 : Shape := ⟨3, ![1, 256, 152]⟩
abbrev S256x152 : Shape := ⟨2, ![256, 152]⟩
abbrev S256x3080 : Shape := ⟨2, ![256, 3080]⟩
abbrev S1x256x256 : Shape := ⟨3, ![1, 256, 256]⟩
abbrev S256x256 : Shape := ⟨2, ![256, 256]⟩
abbrev S16x3080 : Shape := ⟨2, ![16, 3080]⟩
abbrev S16x152 : Shape := ⟨2, ![16, 152]⟩
abbrev S16x3040 : Shape := ⟨2, ![16, 3040]⟩
abbrev S3040x16 : Shape := ⟨2, ![3040, 16]⟩
abbrev S3040x12 : Shape := ⟨2, ![3040, 12]⟩
abbrev S3040x3 : Shape := ⟨2, ![3040, 3]⟩
abbrev S4x45600x4 : Shape := ⟨3, ![4, 45600, 4]⟩
abbrev S4x45600x1 : Shape := ⟨3, ![4, 45600, 1]⟩

abbrev nBuf : Space → Nat
  | .hbm => 27
  | .vmem => 11
  | .smem => 0
  | _ => 0

abbrev bufTy : (tb : Table) → Fin (tcTables nBuf tb) → BufTy
  | .hbm, ⟨0, _⟩ => ⟨S4x256x100x152, .f32⟩
  | .hbm, ⟨1, _⟩ => ⟨S256x256x3x3, .f32⟩
  | .hbm, ⟨2, _⟩ => ⟨S256, .f32⟩
  | .hbm, ⟨3, _⟩ => ⟨S3x256x1x1, .f32⟩
  | .hbm, ⟨4, _⟩ => ⟨S3, .f32⟩
  | .hbm, ⟨5, _⟩ => ⟨S12x256x1x1, .f32⟩
  | .hbm, ⟨6, _⟩ => ⟨S12, .f32⟩
  | .hbm, ⟨7, _⟩ => ⟨S4x256x15200, .f32⟩
  | .hbm, ⟨8, _⟩ => ⟨S3x3x256x256, .f32⟩
  | .hbm, ⟨9, _⟩ => ⟨S9x256x256, .f32⟩
  | .hbm, ⟨10, _⟩ => ⟨S9x256x256, .bf16⟩
  | .hbm, ⟨11, _⟩ => ⟨S15x256x1x1, .f32⟩
  | .hbm, ⟨12, _⟩ => ⟨S15x256, .f32⟩
  | .hbm, ⟨13, _⟩ => ⟨S_, .i32⟩
  | .hbm, ⟨14, _⟩ => ⟨S_, .f32⟩
  | .hbm, ⟨15, _⟩ => ⟨S16x256, .f32⟩
  | .hbm, ⟨16, _⟩ => ⟨S16x256, .bf16⟩
  | .hbm, ⟨17, _⟩ => ⟨S15, .f32⟩
  | .hbm, ⟨18, _⟩ => ⟨S_, .i32⟩
  | .hbm, ⟨19, _⟩ => ⟨S_, .f32⟩
  | .hbm, ⟨20, _⟩ => ⟨S16, .f32⟩
  | .hbm, ⟨21, _⟩ => ⟨S16x1, .f32⟩
  | .hbm, ⟨22, _⟩ => ⟨S256x1, .f32⟩
  | .hbm, ⟨23, _⟩ => ⟨S4x15200x12, .f32⟩
  | .hbm, ⟨24, _⟩ => ⟨S4x15200x3, .f32⟩
  | .hbm, ⟨25, _⟩ => ⟨S4x45600x4, .f32⟩
  | .hbm, ⟨26, _⟩ => ⟨S4x45600x1, .f32⟩
  | .local _ .vmem, ⟨0, _⟩ => ⟨S1x256x15200, .f32⟩
  | .local _ .vmem, ⟨1, _⟩ => ⟨S1x256x15200, .f32⟩
  | .local _ .vmem, ⟨2, _⟩ => ⟨S9x256x256, .bf16⟩
  | .local _ .vmem, ⟨3, _⟩ => ⟨S16x256, .bf16⟩
  | .local _ .vmem, ⟨4, _⟩ => ⟨S256x1, .f32⟩
  | .local _ .vmem, ⟨5, _⟩ => ⟨S16x1, .f32⟩
  | .local _ .vmem, ⟨6, _⟩ => ⟨S1x3040x12, .f32⟩
  | .local _ .vmem, ⟨7, _⟩ => ⟨S1x3040x12, .f32⟩
  | .local _ .vmem, ⟨8, _⟩ => ⟨S1x3040x3, .f32⟩
  | .local _ .vmem, ⟨9, _⟩ => ⟨S1x3040x3, .f32⟩
  | .local _ .vmem, ⟨10, _⟩ => ⟨S256x15880, .bf16⟩
  | _, _ => ⟨S4x256x100x152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_6 : BitVec 32 := 0#32
  let v17 : BitVec 1 := Scalar.cmpi .ne v16 c0_i32_6
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x15200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3040x12 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3040x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x256x100x152 : Shape := ⟨4, ![4, 256, 100, 152]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩
abbrev S4x256x102x154 : Shape := ⟨4, ![4, 256, 102, 154]⟩
abbrev S256x256x1x1 : Shape := ⟨4, ![256, 256, 1, 1]⟩
abbrev S256x256 : Shape := ⟨2, ![256, 256]⟩
abbrev S4x100x152x256 : Shape := ⟨4, ![4, 100, 152, 256]⟩
abbrev S1x256x1x1 : Shape := ⟨4, ![1, 256, 1, 1]⟩
abbrev S4x3x100x152 : Shape := ⟨4, ![4, 3, 100, 152]⟩
abbrev S3x256 : Shape := ⟨2, ![3, 256]⟩
abbrev S4x100x152x3 : Shape := ⟨4, ![4, 100, 152, 3]⟩
abbrev S1x3x1x1 : Shape := ⟨4, ![1, 3, 1, 1]⟩
abbrev S4x12x100x152 : Shape := ⟨4, ![4, 12, 100, 152]⟩
abbrev S12x256 : Shape := ⟨2, ![12, 256]⟩
abbrev S4x100x152x12 : Shape := ⟨4, ![4, 100, 152, 12]⟩
abbrev S1x12x1x1 : Shape := ⟨4, ![1, 12, 1, 1]⟩
abbrev S4x45600x4 : Shape := ⟨3, ![4, 45600, 4]⟩
abbrev S4x45600x1 : Shape := ⟨3, ![4, 45600, 1]⟩

abbrev nBuf : Space → Nat
  | .hbm => 100
  | .vmem => 0
  | .smem => 0
  | _ => 0

abbrev bufTy : (tb : Table) → Fin (tcTables nBuf tb) → BufTy
  | .hbm, ⟨0, _⟩ => ⟨S4x256x100x152, .f32⟩
  | .hbm, ⟨1, _⟩ => ⟨S256x256x3x3, .f32⟩
  | .hbm, ⟨2, _⟩ => ⟨S256, .f32⟩
  | .hbm, ⟨3, _⟩ => ⟨S3x256x1x1, .f32⟩
  | .hbm, ⟨4, _⟩ => ⟨S3, .f32⟩
  | .hbm, ⟨5, _⟩ => ⟨S12x256x1x1, .f32⟩
  | .hbm, ⟨6, _⟩ => ⟨S12, .f32⟩
  | .hbm, ⟨7, _⟩ => ⟨S_, .i32⟩
  | .hbm, ⟨8, _⟩ => ⟨S_, .f32⟩
  | .hbm, ⟨9, _⟩ => ⟨S4x256x102x154, .f32⟩
  | .hbm, ⟨10, _⟩ => ⟨S_, .f32⟩
  | .hbm, ⟨11, _⟩ => ⟨S4x256x100x152, .f32⟩
  | .hbm, ⟨12, _⟩ => ⟨S4x256x100x152, .f32⟩
  | .hbm, ⟨13, _⟩ => ⟨S256x256x1x1, .f32⟩
  | .hbm, ⟨14, _⟩ => ⟨S256x256, .f32⟩
  | .hbm, ⟨15, _⟩ => ⟨S4x100x152x256, .f32⟩
  | .hbm, ⟨16, _⟩ => ⟨S4x256x100x152, .f32⟩
  | .hbm, ⟨17, _⟩ => ⟨S4x256x100x152, .f32⟩
  | .hbm, ⟨18, _⟩ => ⟨S4x256x100x152, .f32⟩
  | .hbm, ⟨19, _⟩ => ⟨S256x256x1x1, .f32⟩
  | .hbm, ⟨20, _⟩ => ⟨S256x256, .f32⟩
  | .hbm, ⟨21, _⟩ => ⟨S4x100x152x256, .f32⟩
  | .hbm, ⟨22, _⟩ => ⟨S4x256x100x152, .f32⟩
  | .hbm, ⟨23, _⟩ => ⟨S4x256x100x152, .f32⟩
  | .hbm, ⟨24, _⟩ => ⟨S4x256x100x152, .f32⟩
  | .hbm, ⟨25, _⟩ => ⟨S256x256x1x1, .f32⟩
  | .hbm, ⟨26, _⟩ => ⟨S256x256, .f32⟩
  | .hbm, ⟨27, _⟩ => ⟨S4x100x152x256, .f32⟩
  | .hbm, ⟨28, _⟩ => ⟨S4x256x100x152, .f32⟩
  | .hbm, ⟨29, _⟩ => ⟨S4x256x100x152, .f32⟩
  | .hbm, ⟨30, _⟩ => ⟨S4x256x100x152, .f32⟩
  | .hbm, ⟨31, _⟩ => ⟨S256x256x1x1, .f32⟩
  | .hbm, ⟨32, _⟩ => ⟨S256x256, .f32⟩
  | .hbm, ⟨33, _⟩ => ⟨S4x100x152x256, .f32⟩
  | .hbm, ⟨34, _⟩ => ⟨S4x256x100x152, .f32⟩
  | .hbm, ⟨35, _⟩ => ⟨S4x256x100x152, .f32⟩
  | .hbm, ⟨36, _⟩ => ⟨S4x256x100x152, .f32⟩
  | .hbm, ⟨37, _⟩ => ⟨S256x256x1x1, .f32⟩
  | .hbm, ⟨38, _⟩ => ⟨S256x256, .f32⟩
  | .hbm, ⟨39, _⟩ => ⟨S4x100x152x256, .f32⟩
  | .hbm, ⟨40, _⟩ => ⟨S4x256x100x152, .f32⟩
  | .hbm, ⟨41, _⟩ => ⟨S4x256x100x152, .f32⟩
  | .hbm, ⟨42, _⟩ => ⟨S4x256x100x152, .f32⟩
  | .hbm, ⟨43, _⟩ => ⟨S256x256x1x1, .f32⟩
  | .hbm, ⟨44, _⟩ => ⟨S256x256, .f32⟩
  | .hbm, ⟨45, _⟩ => ⟨S4x100x152x256, .f32⟩
  | .hbm, ⟨46, _⟩ => ⟨S4x256x100x152, .f32⟩
  | .hbm, ⟨47, _⟩ => ⟨S4x256x100x152, .f32⟩
  | .hbm, ⟨48, _⟩ => ⟨S4x256x100x152, .f32⟩
  | .hbm, ⟨49, _⟩ => ⟨S256x256x1x1, .f32⟩
  | .hbm, ⟨50, _⟩ => ⟨S256x256, .f32⟩
  | .hbm, ⟨51, _⟩ => ⟨S4x100x152x256, .f32⟩
  | .hbm, ⟨52, _⟩ => ⟨S4x256x100x152, .f32⟩
  | .hbm, ⟨53, _⟩ => ⟨S4x256x100x152, .f32⟩
  | .hbm, ⟨54, _⟩ => ⟨S4x256x100x152, .f32⟩
  | .hbm, ⟨55, _⟩ => ⟨S256x256x1x1, .f32⟩
  | .hbm, ⟨56, _⟩ => ⟨S256x256, .f32⟩
  | .hbm, ⟨57, _⟩ => ⟨S4x100x152x256, .f32⟩
  | .hbm, ⟨58, _⟩ => ⟨S4x256x100x152, .f32⟩
  | .hbm, ⟨59, _⟩ => ⟨S4x256x100x152, .f32⟩
  | .hbm, ⟨60, _⟩ => ⟨S4x256x100x152, .f32⟩
  | .hbm, ⟨61, _⟩ => ⟨S256x256x1x1, .f32⟩
  | .hbm, ⟨62, _⟩ => ⟨S256x256, .f32⟩
  | .hbm, ⟨63, _⟩ => ⟨S4x100x152x256, .f32⟩
  | .hbm, ⟨64, _⟩ => ⟨S4x256x100x152, .f32⟩
  | .hbm, ⟨65, _⟩ => ⟨S4x256x100x152, .f32⟩
  | .hbm, ⟨66, _⟩ => ⟨S1x256x1x1, .f32⟩
  | .hbm, ⟨67, _⟩ => ⟨S4x256x100x152, .f32⟩
  | .hbm, ⟨68, _⟩ => ⟨S4x256x100x152, .f32⟩
  | .hbm, ⟨69, _⟩ => ⟨S_, .f32⟩
  | .hbm, ⟨70, _⟩ => ⟨S4x256x100x152, .f32⟩
  | .hbm, ⟨71, _⟩ => ⟨S4x256x100x152, .f32⟩
  | .hbm, ⟨72, _⟩ => ⟨S_, .i32⟩
  | .hbm, ⟨73, _⟩ => ⟨S_, .f32⟩
  | .hbm, ⟨74, _⟩ => ⟨S4x256x100x152, .f32⟩
  | .hbm, ⟨75, _⟩ => ⟨S_, .f32⟩
  | .hbm, ⟨76, _⟩ => ⟨S4x3x100x152, .f32⟩
  | .hbm, ⟨77, _⟩ => ⟨S3x256, .f32⟩
  | .hbm, ⟨78, _⟩ => ⟨S4x100x152x3, .f32⟩
  | .hbm, ⟨79, _⟩ => ⟨S4x3x100x152, .f32⟩
  | .hbm, ⟨80, _⟩ => ⟨S4x3x100x152, .f32⟩
  | .hbm, ⟨81, _⟩ => ⟨S1x3x1x1, .f32⟩
  | .hbm, ⟨82, _⟩ => ⟨S4x3x100x152, .f32⟩
  | .hbm, ⟨83, _⟩ => ⟨S4x3x100x152, .f32⟩
  | .hbm, ⟨84, _⟩ => ⟨S_, .i32⟩
  | .hbm, ⟨85, _⟩ => ⟨S_, .f32⟩
  | .hbm, ⟨86, _⟩ => ⟨S4x256x100x152, .f32⟩
  | .hbm, ⟨87, _⟩ => ⟨S_, .f32⟩
  | .hbm, ⟨88, _⟩ => ⟨S4x12x100x152, .f32⟩
  | .hbm, ⟨89, _⟩ => ⟨S12x256, .f32⟩
  | .hbm, ⟨90, _⟩ => ⟨S4x100x152x12, .f32⟩
  | .hbm, ⟨91, _⟩ => ⟨S4x12x100x152, .f32⟩
  | .hbm, ⟨92, _⟩ => ⟨S4x12x100x152, .f32⟩
  | .hbm, ⟨93, _⟩ => ⟨S1x12x1x1, .f32⟩
  | .hbm, ⟨94, _⟩ => ⟨S4x12x100x152, .f32⟩
  | .hbm, ⟨95, _⟩ => ⟨S4x12x100x152, .f32⟩
  | .hbm, ⟨96, _⟩ => ⟨S4x100x152x12, .f32⟩
  | .hbm, ⟨97, _⟩ => ⟨S4x45600x4, .f32⟩
  | .hbm, ⟨98, _⟩ => ⟨S4x100x152x3, .f32⟩
  | .hbm, ⟨99, _⟩ => ⟨S4x45600x1, .f32⟩
  | _, _ => ⟨S4x256x100x152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call1_cst : Ref sig .tc := ⟨.hbm, 69, rfl⟩
abbrev main_call1_v0 : Ref sig .tc := ⟨.hbm, 70, rfl⟩
abbrev main_v59 : Ref sig .tc := ⟨.hbm, 71, rfl⟩
abbrev main_c_0 : Ref sig .tc := ⟨.hbm, 72, rfl⟩
abbrev main_call2_v0 : Ref sig .tc := ⟨.hbm, 73, rfl⟩
abbrev main_v60 : Ref sig .tc := ⟨.hbm, 74, rfl⟩
abbrev main_cst_1 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_2 : Ref sig .tc := ⟨.hbm, 84, rfl⟩
abbrev main_call3_v0 : Ref sig .tc := ⟨.hbm, 85, rfl⟩
abbrev main_v69 : Ref sig .tc := ⟨.hbm, 86, rfl⟩
abbrev main_cst_3 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== Proof.KernelRunE.lean ====
/- One call of the kernel on the last row group of an image, run from its printed text. The runs of the other four groups
   come with the program; this one is proved here. -/
module

public import proofs.«01_k».proof.Proof.Gen.KernelIdeal.Frame.RunD

@[expose] public section

set_option maxRecDepth 16384

noncomputable section

namespace Cert.Rpn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One call of the kernel on the last of an image's five row groups: the stores it leaves in its two output blocks
    (the witnesses, last first), with the proof that from the operand blocks at `x0 … x4`, the output blocks at anything
    and the canvas at `xs0` the call ends with the operands and the canvas as they were and those stores made. -/
noncomputable def runLast (c : Dev nD) (i : grid0.Coords) (arg2 : Memref sig .tc .vmem S1x256x15200 .f32) (harg2 : arg2.IsWhole)
      (arg3 : Memref sig .tc .vmem S9x256x256 .bf16) (harg3 : arg3.IsWhole) (arg4 : Memref sig .tc .vmem S16x256 .bf16) (harg4 :
      arg4.IsWhole) (arg5 : Memref sig .tc .vmem S256x1 .f32) (harg5 : arg5.IsWhole) (arg6 : Memref sig .tc .vmem S16x1 .f32)
      (harg6 : arg6.IsWhole) (arg7 : Memref sig .tc .vmem S1x3040x12 .f32) (harg7 : arg7.IsWhole) (arg8 : Memref sig .tc .vmem
      S1x3040x3 .f32) (harg8 : arg8.IsWhole) (arg9 : Memref sig .tc .vmem S256x15880 .bf16) (harg9 : arg9.IsWhole) (hc0 : ¬cond0_0
      i) (hc1 : ¬cond0_1 i) (hc2 : ¬cond0_2 i) (hc3 : ¬cond0_3 i) (hc4 : ¬cond0_4 i) (hc5 : cond0_5 i)
(x0 : Vec F S1x256x15200 .f32) (x1 : Vec F S9x256x256 .bf16) (x2 : Vec F S16x256 .bf16) (x3 : Vec F S256x1 .f32) (x4 : Vec F S16x1
      .f32) (xs0 : Vec F S256x15880 .bf16) :
Σ' (L5 : List (View.Piece (Elt F) S1x3040x12 .f32)), Σ' (L6 : List (View.Piece (Elt F) S1x3040x3 .f32)), { LS0 : List (View.Piece
      (Elt F) S256x15880 .bf16) //
      ∀ (E : Set ℕ) (K : PUnit → sProp 𝕄),
iprop(owns (c : Thread nD τ) arg2 fullShare x0 ∗ owns (c : Thread nD τ) arg3 fullShare x1 ∗ owns (c : Thread nD τ) arg4 fullShare
      x2 ∗ owns (c : Thread nD τ) arg5 fullShare x3 ∗ owns (c : Thread nD τ) arg6 fullShare x4 ∗ (∃ d, owns (c : Thread nD τ) arg7
      fullShare d) ∗ (∃ d, owns (c : Thread nD τ) arg8 fullShare d) ∗ owns (c : Thread nD τ) arg9 fullShare xs0
∗ (iprop(owns (c : Thread nD τ) arg2 fullShare x0 ∗ owns (c : Thread nD τ) arg3 fullShare x1 ∗ owns (c : Thread nD τ) arg4
      fullShare x2 ∗ owns (c : Thread nD τ) arg5 fullShare x3 ∗ owns (c : Thread nD τ) arg6 fullShare x4 ∗ (∃ f, arg7.view.loc (c
      : Thread nD τ) ↦[arg7.view.set]{fullShare} arg7.view.writes (Elt F) f L5) ∗ (∃ f, arg8.view.loc (c : Thread nD τ)
      ↦[arg8.view.set]{fullShare} arg8.view.writes (Elt F) f L6) ∗ owns (c : Thread nD τ) arg9 fullShare xs0) -∗ K ⟨⟩))
⊢ wp frame (wpE (defs₀ (F := F)) Variants.none c none) E (cc0__rpn_head i arg2 harg2 arg3 harg3 arg4 harg4 arg5 harg5 arg6 harg6
      arg7 harg7 arg8 harg8 arg9 harg9) K } := by
  refine ⟨?_, ?_, [], fun E K => ?run⟩
  case run =>
    simp only [cc0__rpn_head_eq_skeleton]; unfold cc0__rpn_head_skel
    rw [k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; isplitr; · ipureintro; exact harg9.read_unread _
    iexact HS0

end Cert.Rpn.Kernel

end
-- ==== Proof.KernelBlocks.lean ====
/- What one call of the kernel leaves in its three written buffers, as values of what it reads: the scratch
   canvas (the image block laid out with its zero border), and the two output blocks (box deltas and class scores)
   of a group of twenty image rows. -/
module

public import proofs.«01_k».proof.Proof.KernelRunE
public import Idealize.ShloMosaic.Lib.Pipeline.ValueKit
public import Idealize.ShloMosaic.Lib.Pipeline.ReadBack

@[expose] public section

set_option maxRecDepth 16384

noncomputable section

namespace Cert.Rpn.Kernel

open Idealize.ShloMosaic Idealize.ShloMosaic.TcCoe Idealize.ShloMosaic.Tactic Idealize.SL.Sem
open Cert.KernelIdeal Cert.KernelIdeal.Gen

variable {F : FTy → Type} [FloatOps F]

/-- The rectangle of the image block that holds its row `r`, for every channel. -/
def rowRect (r : Fin 100) : Rect S1x256x15200 :=
  Rect.unit ![0, 0, r.val * 152] ![1, 256, 152] (by
    intro a; have := r.isLt; fin_cases a <;> simp [S1x256x15200] <;> omega)

/-- The place of row `r` on the canvas: rows are 154 lanes wide, row `r` starts after eight spare lanes, a whole
    border row and one border lane. -/
def laneRect (r : Fin 100) : Rect S256x15880 :=
  Rect.unit ![0, 163 + r.val * 154] ![256, 152] (by
    intro a; have := r.isLt; fin_cases a <;> simp [S256x15880] <;> omega)

/-- The stores that fill the canvas from image block `x`, last first: rows `n - 1, …, 0` over a fill with zeros. -/
def canvasPieces (x : Vec F S1x256x15200 .f32) : (n : ℕ) → n ≤ 100 → List (View.Piece (Elt F) S256x15880 .bf16)
  | 0, _ => [⟨Rect.unit ![0, 0] S256x15880.size (by intro a; fin_cases a <;> simp), k0_pay17⟩]
  | n + 1, h => ⟨laneRect ⟨n, h⟩, k0_pay18 (View.ld x (rowRect ⟨n, h⟩))⟩ :: canvasPieces x n (Nat.le_of_succ_le h)

/-- The canvas of image block `x`: what those stores leave. -/
def canvas (x : Vec F S1x256x15200 .f32) : Vec F S256x15880 .bf16 := View.canon (canvasPieces x 100 le_rfl)

/-- The rectangle of the 3×3 weights' block that holds tap `k`. -/
def tapRect (k : Fin 9) : Rect S9x256x256 :=
  Rect.unit ![k.val, 0, 0] ![1, 256, 256] (by
    intro a; have := k.isLt; fin_cases a <;> simp [S9x256x256] <;> omega)

/-- The window of the canvas that tap `k` reads for row group `g`: twenty canvas rows from the lane before the
    group's first, moved by the tap's row and column. -/
def slabRect (g : Fin 5) (k : Fin 9) : Rect S256x15880 :=
  Rect.unit ![0, g.val * 3080 + 7 + k.val / 3 * 154 + k.val % 3] ![256, 3080] (by
    intro a; have := g.isLt; have := k.isLt; fin_cases a <;> simp [S256x15880] <;> omega)

/-- The sixteen head rows before their bias, over one group's lanes: from the nine taps `w`, the nine canvas windows
    `s`, the hidden bias `b` and the head weights `wc`. -/
def heads (w : Fin 9 → Vec F S1x256x256 .bf16) (s : Fin 9 → Vec F S256x3080 .bf16) (b : Vec F S256x1 .f32)
    (wc : Vec F S16x256 .bf16) : FVec F S16x3080 .f32 :=
  k0_pay118 (k0_pay117 (w 0) (s 0) (w 1) (s 1) (w 2) (s 2) (w 3) (s 3) (w 4) (s 4))
    (w 5) (s 5) (w 6) (s 6) (w 7) (s 7) (w 8) (s 8) b wc

/-- The heads of one group from its canvas windows `s` and the whole operand blocks: nine taps `w9`, head weights `wc`,
    hidden bias `b`. -/
def headsOf (s : Fin 9 → Vec F S256x3080 .bf16) (w9 : Vec F S9x256x256 .bf16) (wc : Vec F S16x256 .bf16)
    (b : Vec F S256x1 .f32) : FVec F S16x3080 .f32 :=
  heads (fun k => View.ld w9 (tapRect k)) s
    (View.ld b (Rect.unit ![0, 0] S256x1.size (by intro a; fin_cases a <;> simp)))
    (View.ld wc (Rect.unit ![0, 0] S16x256.size (by intro a; fin_cases a <;> simp)))

/-- The block of box deltas of one group, from its canvas windows `s`, the operand blocks and the head bias `bc`. -/
def boxOf (s : Fin 9 → Vec F S256x3080 .bf16) (w9 : Vec F S9x256x256 .bf16) (wc : Vec F S16x256 .bf16)
    (b : Vec F S256x1 .f32) (bc : Vec F S16x1 .f32) : FVec F S1x3040x12 .f32 :=
  k0_pay3 (headsOf s w9 wc b) (View.ld bc (Rect.unit ![0, 0] S16x1.size (by intro a; fin_cases a <;> simp)))

/-- The block of class scores of one group, from the same. -/
def clsOf (s : Fin 9 → Vec F S256x3080 .bf16) (w9 : Vec F S9x256x256 .bf16) (wc : Vec F S16x256 .bf16)
    (b : Vec F S256x1 .f32) (bc : Vec F S16x1 .f32) : FVec F S1x3040x3 .f32 :=
  k0_pay4 (headsOf s w9 wc b) (View.ld bc (Rect.unit ![0, 0] S16x1.size (by intro a; fin_cases a <;> simp)))

/-- The nine windows of the canvas `cv` that row group `g` reads. -/
def slabs (cv : Vec F S256x15880 .bf16) (g : Fin 5) (k : Fin 9) : Vec F S256x3080 .bf16 := View.ld cv (slabRect g k)

/-- The one store that fills a box block with `y`. -/
def boxPieces (y : FVec F S1x3040x12 .f32) : List (View.Piece (Elt F) S1x3040x12 .f32) :=
  [⟨Rect.unit ![0, 0, 0] S1x3040x12.size (by intro a; fin_cases a <;> simp), y⟩]

/-- The one store that fills a class block with `y`. -/
def clsPieces (y : FVec F S1x3040x3 .f32) : List (View.Piece (Elt F) S1x3040x3 .f32) :=
  [⟨Rect.unit ![0, 0, 0] S1x3040x3.size (by intro a; fin_cases a <;> simp), y⟩]

variable (c : Dev nD) (i : grid0.Coords) (arg2 : Memref sig .tc .vmem S1x256x15200 .f32) (harg2 : arg2.IsWhole) (arg3 :
  Memref sig .tc .vmem S9x256x256 .bf16) (harg3 : arg3.IsWhole) (arg4 : Memref sig .tc .vmem S16x256 .bf16) (harg4 :
  arg4.IsWhole) (arg5 : Memref sig .tc .vmem S256x1 .f32) (harg5 : arg5.IsWhole)
  (arg6 : Memref sig .tc .vmem S16x1 .f32) (harg6 : arg6.IsWhole) (arg7 : Memref sig .tc .vmem S1x3040x12 .f32) (harg7 :
    arg7.IsWhole) (arg8 : Memref sig .tc .vmem S1x3040x3 .f32) (harg8 : arg8.IsWhole) (arg9 : Memref sig .tc .vmem S256x15880
    .bf16) (harg9 : arg9.IsWhole)
  (x0 : Vec F S1x256x15200 .f32) (x1 : Vec F S9x256x256 .bf16) (x2 : Vec F S16x256 .bf16) (x3 : Vec F S256x1 .f32) (x4 : Vec
    F S16x1 .f32) (xs0 : Vec F S256x15880 .bf16)

/-- What a whole view reads of the contents that hold `x`. -/
theorem readBack {sp : Space} {s : Shape} {e : EltTy} (v : Memref sig .tc sp s e) (hv : v.IsWhole) (x : Vec F s e) :
    v.view.read (Elt F) (hv.unread x) = x := hv.read_unread x

/-- The first group's call stores the canvas of its image block. -/
theorem canvas_A (hc0 : cond0_0 i) (hc1 : cond0_1 i) (hc2 : ¬cond0_2 i) (hc3 : ¬cond0_3 i) (hc4 : ¬cond0_4 i) (hc5 : ¬cond0_5 i) :
    (kernelRun0_A c i arg2 harg2 arg3 harg3 arg4 harg4 arg5 harg5 arg6 harg6 arg7 harg7 arg8 harg8 arg9 harg9 hc0 hc1 hc2 hc3
      hc4 hc5 x0 x1 x2 x3 x4).2.2.1 = canvasPieces x0 100 le_rfl :=
  (show _ = canvasPieces (arg2.view.read (Elt F) (harg2.unread x0)) 100 le_rfl by sl_kernel_rfl).trans (by rw [harg2.read_unread])

/-- The first group's call stores its block of box deltas. -/
theorem box_A (hc0 : cond0_0 i) (hc1 : cond0_1 i) (hc2 : ¬cond0_2 i) (hc3 : ¬cond0_3 i) (hc4 : ¬cond0_4 i) (hc5 : ¬cond0_5 i) :
    (kernelRun0_A c i arg2 harg2 arg3 harg3 arg4 harg4 arg5 harg5 arg6 harg6 arg7 harg7 arg8 harg8 arg9 harg9 hc0 hc1 hc2 hc3
      hc4 hc5 x0 x1 x2 x3 x4).1 = boxPieces (boxOf (slabs (canvas x0) 0) x1 x2 x3 x4) :=
  (show _ = boxPieces (boxOf (fun q => arg9.view.readCov (canvasPieces (arg2.view.read (Elt F) (harg2.unread x0)) 100 le_rfl)
    (slabRect 0 q).toLoadRect)
      (arg3.view.read (Elt F) (harg3.unread x1)) (arg4.view.read (Elt F) (harg4.unread x2)) (arg5.view.read (Elt F)
        (harg5.unread x3)) (arg6.view.read (Elt F) (harg6.unread x4))) by sl_kernel_rfl).trans (by
    rw [harg2.read_unread, harg3.read_unread, harg4.read_unread, harg5.read_unread, harg6.read_unread]
    simp only [View.readCov_eq_canon']; rfl)

/-- The first group's call stores its block of class scores. -/
theorem cls_A (hc0 : cond0_0 i) (hc1 : cond0_1 i) (hc2 : ¬cond0_2 i) (hc3 : ¬cond0_3 i) (hc4 : ¬cond0_4 i) (hc5 : ¬cond0_5 i) :
    (kernelRun0_A c i arg2 harg2 arg3 harg3 arg4 harg4 arg5 harg5 arg6 harg6 arg7 harg7 arg8 harg8 arg9 harg9 hc0 hc1 hc2 hc3
      hc4 hc5 x0 x1 x2 x3 x4).2.1 = clsPieces (clsOf (slabs (canvas x0) 0) x1 x2 x3 x4) :=
  (show _ = clsPieces (clsOf (fun q => arg9.view.readCov (canvasPieces (arg2.view.read (Elt F) (harg2.unread x0)) 100 le_rfl)
    (slabRect 0 q).toLoadRect)
      (arg3.view.read (Elt F) (harg3.unread x1)) (arg4.view.read (Elt F) (harg4.unread x2)) (arg5.view.read (Elt F)
        (harg5.unread x3)) (arg6.view.read (Elt F) (harg6.unread x4))) by sl_kernel_rfl).trans (by
    rw [harg2.read_unread, harg3.read_unread, harg4.read_unread, harg5.read_unread, harg6.read_unread]
    simp only [View.readCov_eq_canon']; rfl)

/-- A later group's box block, stated on what its whole views read, is the block of the operands they hold. -/
theorem box_held (g : Fin 5) {P : List (View.Piece (Elt F) S1x3040x12 .f32)}
    (h : P = boxPieces (boxOf (slabs (arg9.view.read (Elt F) (harg9.unread xs0)) g)
      (arg3.view.read (Elt F) (harg3.unread x1)) (arg4.view.read (Elt F) (harg4.unread x2)) (arg5.view.read (Elt F)
        (harg5.unread x3)) (arg6.view.read (Elt F) (harg6.unread x4)))) :
    P = boxPieces (boxOf (slabs xs0 g) x1 x2 x3 x4) := by
  rw [h, harg3.read_unread, harg4.read_unread, harg5.read_unread, harg6.read_unread, harg9.read_unread]

/-- Its class block likewise. -/
theorem cls_held (g : Fin 5) {P : List (View.Piece (Elt F) S1x3040x3 .f32)}
    (h : P = clsPieces (clsOf (slabs (arg9.view.read (Elt F) (harg9.unread xs0)) g)
      (arg3.view.read (Elt F) (harg3.unread x1)) (arg4.view.read (Elt F) (harg4.unread x2)) (arg5.view.read (Elt F)
        (harg5.unread x3)) (arg6.view.read (Elt F) (harg6.unread x4)))) :
    P = clsPieces (clsOf (slabs xs0 g) x1 x2 x3 x4) := by
  rw [h, harg3.read_unread, harg4.read_unread, harg5.read_unread, harg6.read_unread, harg9.read_unread]

/-- The second group's call stores its block of box deltas, from the canvas it finds. -/
theorem box_B (hc0 : ¬cond0_0 i) (hc1 : ¬cond0_1 i) (hc2 : cond0_2 i) (hc3 : ¬cond0_3 i) (hc4 : ¬cond0_4 i) (hc5 : ¬cond0_5 i) :
    (kernelRun0_B c i arg2 harg2 arg3 harg3 arg4 harg4 arg5 harg5 arg6 harg6 arg7 harg7 arg8 harg8 arg9 harg9 hc0 hc1 hc2 hc3
      hc4 hc5 x0 x1 x2 x3 x4 xs0).1 = boxPieces (boxOf (slabs xs0 1) x1 x2 x3 x4) :=
  box_held arg3 harg3 arg4 harg4 arg5 harg5 arg6 harg6 arg9 harg9 x1 x2 x3 x4 xs0 1 (by sl_kernel_rfl)

/-- The second group's call stores its block of class scores, from the canvas it finds. -/
theorem cls_B (hc0 : ¬cond0_0 i) (hc1 : ¬cond0_1 i) (hc2 : cond0_2 i) (hc3 : ¬cond0_3 i) (hc4 : ¬cond0_4 i) (hc5 : ¬cond0_5 i) :
    (kernelRun0_B c i arg2 harg2 arg3 harg3 arg4 harg4 arg5 harg5 arg6 harg6 arg7 harg7 arg8 harg8 arg9 harg9 hc0 hc1 hc2 hc3
      hc4 hc5 x0 x1 x2 x3 x4 xs0).2.1 = clsPieces (clsOf (slabs xs0 1) x1 x2 x3 x4) :=
  cls_held arg3 harg3 arg4 harg4 arg5 harg5 arg6 harg6 arg9 harg9 x1 x2 x3 x4 xs0 1 (by sl_kernel_rfl)

/-- The third group's call stores its block of box deltas, from the canvas it finds. -/
theorem box_C (hc0 : ¬cond0_0 i) (hc1 : ¬cond0_1 i) (hc2 : ¬cond0_2 i) (hc3 : cond0_3 i) (hc4 : ¬cond0_4 i) (hc5 : ¬cond0_5 i) :
    (kernelRun0_C c i arg2 harg2 arg3 harg3 arg4 harg4 arg5 harg5 arg6 harg6 arg7 harg7 arg8 harg8 arg9 harg9 hc0 hc1 hc2 hc3
      hc4 hc5 x0 x1 x2 x3 x4 xs0).1 = boxPieces (boxOf (slabs xs0 2) x1 x2 x3 x4) :=
  box_held arg3 harg3 arg4 harg4 arg5 harg5 arg6 harg6 arg9 harg9 x1 x2 x3 x4 xs0 2 (by sl_kernel_rfl)

/-- The third group's call stores its block of class scores, from the canvas it finds. -/
theorem cls_C (hc0 : ¬cond0_0 i) (hc1 : ¬cond0_1 i) (hc2 : ¬cond0_2 i) (hc3 : cond0_3 i) (hc4 : ¬cond0_4 i) (hc5 : ¬cond0_5 i) :
    (kernelRun0_C c i arg2 harg2 arg3 harg3 arg4 harg4 arg5 harg5 arg6 harg6 arg7 harg7 arg8 harg8 arg9 harg9 hc0 hc1 hc2 hc3
      hc4 hc5 x0 x1 x2 x3 x4 xs0).2.1 = clsPieces (clsOf (slabs xs0 2) x1 x2 x3 x4) :=
  cls_held arg3 harg3 arg4 harg4 arg5 harg5 arg6 harg6 arg9 harg9 x1 x2 x3 x4 xs0 2 (by sl_kernel_rfl)

/-- The fourth group's call stores its block of box deltas, from the canvas it finds. -/
theorem box_D (hc0 : ¬cond0_0 i) (hc1 : ¬cond0_1 i) (hc2 : ¬cond0_2 i) (hc3 : ¬cond0_3 i) (hc4 : cond0_4 i) (hc5 : ¬cond0_5 i) :
    (kernelRun0_D c i arg2 harg2 arg3 harg3 arg4 harg4 arg5 harg5 arg6 harg6 arg7 harg7 arg8 harg8 arg9 harg9 hc0 hc1 hc2 hc3
      hc4 hc5 x0 x1 x2 x3 x4 xs0).1 = boxPieces (boxOf (slabs xs0 3) x1 x2 x3 x4) :=
  box_held arg3 harg3 arg4 harg4 arg5 harg5 arg6 harg6 arg9 harg9 x1 x2 x3 x4 xs0 3 (by sl_kernel_rfl)

/-- The fourth group's call stores its block of class scores, from the canvas it finds. -/
theorem cls_D (hc0 : ¬cond0_0 i) (hc1 : ¬cond0_1 i) (hc2 : ¬cond0_2 i) (hc3 : ¬cond0_3 i) (hc4 : cond0_4 i) (hc5 : ¬cond0_5 i) :
    (kernelRun0_D c i arg2 harg2 arg3 harg3 arg4 harg4 arg5 harg5 arg6 harg6 arg7 harg7 arg8 harg8 arg9 harg9 hc0 hc1 hc2 hc3
      hc4 hc5 x0 x1 x2 x3 x4 xs0).2.1 = clsPieces (clsOf (slabs xs0 3) x1 x2 x3 x4) :=
  cls_held arg3 harg3 arg4 harg4 arg5 harg5 arg6 harg6 arg9 harg9 x1 x2 x3 x4 xs0 3 (by sl_kernel_rfl)

/-- The last group's call stores its block of box deltas, from the canvas it finds. -/
theorem box_E (hc0 : ¬cond0_0 i) (hc1 : ¬cond0_1 i) (hc2 : ¬cond0_2 i) (hc3 : ¬cond0_3 i) (hc4 : ¬cond0_4 i) (hc5 : cond0_5 i) :
    (runLast c i arg2 harg2 arg3 harg3 arg4 harg4 arg5 harg5 arg6 harg6 arg7 harg7 arg8 harg8 arg9 harg9 hc0 hc1 hc2 hc3 hc4
      hc5 x0 x1 x2 x3 x4 xs0).1 = boxPieces (boxOf (slabs xs0 4) x1 x2 x3 x4) :=
  box_held arg3 harg3 arg4 harg4 arg5 harg5 arg6 harg6 arg9 harg9 x1 x2 x3 x4 xs0 4 (by sl_kernel_rfl)

/-- The last group's call stores its block of class scores, from the canvas it finds. -/
theorem cls_E (hc0 : ¬cond0_0 i) (hc1 : ¬cond0_1 i) (hc2 : ¬cond0_2 i) (hc3 : ¬cond0_3 i) (hc4 : ¬cond0_4 i) (hc5 : cond0_5 i) :
    (runLast c i arg2 harg2 arg3 harg3 arg4 harg4 arg5 harg5 arg6 harg6 arg7 harg7 arg8 harg8 arg9 harg9 hc0 hc1 hc2 hc3 hc4
      hc5 x0 x1 x2 x3 x4 xs0).2.1 = clsPieces (clsOf (slabs xs0 4) x1 x2 x3 x4) :=
  cls_held arg3 harg3 arg4 harg4 arg5 harg5 arg6 harg6 arg9 harg9 x1 x2 x3 x4 xs0 4 (by sl_kernel_rfl)

end Cert.Rpn.Kernel

end
-- ==== Proof.KernelCall.lean ====
/- One call of the kernel as a statement about its buffers, for every row group alike: the operand blocks stay as they
   are, the output blocks end at the group's box deltas and class scores, and the canvas ends at the image's. -/
module

public import proofs.«01_k».proof.Proof.KernelBlocks

@[expose] public section

set_option maxRecDepth 16384

noncomputable section

namespace Cert.Rpn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A buffer written by stores over some contents holds what those stores leave, once they cover it. -/
theorem owns_of_stores {sp : Space} {s : Shape} {e : EltTy} (c : Dev nD) (v : Memref sig .tc sp s e)
    {L : List (View.Piece (Elt F) s e)} {y : Vec F s e} (cover : ∀ z, ∃ p ∈ L, z ∈ p.1.set) (left : View.canon L = y) :
    (iprop(∃ f, v.view.loc (c : Thread nD τ) ↦[v.view.set]{fullShare} v.view.writes (Elt F) f L) : sProp 𝕄)
      ⊢ owns (c : Thread nD τ) v fullShare y := by
  iintro ⟨%f, H⟩
  unfold owns; iexists _; isplitr
  swap; · iexact H
  ipureintro
  rw [← left]; funext z
  exact View.read_writes_apply_eq_canon v.view f z L (cover z)

/-- The store of a whole box block covers it and leaves its value, -/
theorem owns_box {sp : Space} (c : Dev nD) (v : Memref sig .tc sp S1x3040x12 .f32) (y : FVec F S1x3040x12 .f32) :
    (iprop(∃ f, v.view.loc (c : Thread nD τ) ↦[v.view.set]{fullShare} v.view.writes (Elt F) f (boxPieces y)) : sProp 𝕄)
      ⊢ owns (c : Thread nD τ) v fullShare y :=
  owns_of_stores c v (View.cover_of_wholeMem _ ⟨_, List.mem_singleton_self _, rfl⟩)
    (View.canon_cons_unit_zero (by funext a; fin_cases a <;> rfl) _ _ _)

/-- and likewise that of a whole class block. -/
theorem owns_cls {sp : Space} (c : Dev nD) (v : Memref sig .tc sp S1x3040x3 .f32) (y : FVec F S1x3040x3 .f32) :
    (iprop(∃ f, v.view.loc (c : Thread nD τ) ↦[v.view.set]{fullShare} v.view.writes (Elt F) f (clsPieces y)) : sProp 𝕄)
      ⊢ owns (c : Thread nD τ) v fullShare y :=
  owns_of_stores c v (View.cover_of_wholeMem _ ⟨_, List.mem_singleton_self _, rfl⟩)
    (View.canon_cons_unit_zero (by funext a; fin_cases a <;> rfl) _ _ _)

/-- The fill with zeros under the rows covers the canvas. -/
theorem canvas_filled (x : Vec F S1x256x15200 .f32) (n : ℕ) (h : n ≤ 100) :
    View.Piece.WholeMem (canvasPieces x n h) := by
  induction n with
  | zero => exact ⟨_, List.mem_singleton_self _, rfl⟩
  | succ n ih => obtain ⟨p, hp, hw⟩ := ih (Nat.le_of_succ_le h); exact ⟨p, List.mem_cons_of_mem _ hp, hw⟩

/-- The stores of the canvas leave it whole. -/
theorem owns_canvas {sp : Space} (c : Dev nD) (v : Memref sig .tc sp S256x15880 .bf16) (x : Vec F S1x256x15200 .f32)
    {L : List (View.Piece (Elt F) S256x15880 .bf16)} (hL : L = canvasPieces x 100 le_rfl) :
    (iprop(∃ f, v.view.loc (c : Thread nD τ) ↦[v.view.set]{fullShare} v.view.writes (Elt F) f L) : sProp 𝕄)
      ⊢ owns (c : Thread nD τ) v fullShare (canvas x) := by
  subst hL
  exact owns_of_stores c v (View.cover_of_wholeMem _ (canvas_filled x 100 le_rfl)) rfl

section Call

variable (c : Dev nD) (i : grid0.Coords) (arg2 : Memref sig .tc .vmem S1x256x15200 .f32) (harg2 : arg2.IsWhole) (arg3 : Memref sig .tc .vmem S9x256x256 .bf16) (harg3 : arg3.IsWhole) (arg4 : Memref sig .tc .vmem S16x256 .bf16) (harg4 : arg4.IsWhole) (arg5 : Memref sig .tc .vmem S256x1 .f32) (harg5 : arg5.IsWhole)
  (arg6 : Memref sig .tc .vmem S16x1 .f32) (harg6 : arg6.IsWhole) (arg7 : Memref sig .tc .vmem S1x3040x12 .f32) (harg7 : arg7.IsWhole) (arg8 : Memref sig .tc .vmem S1x3040x3 .f32) (harg8 : arg8.IsWhole) (arg9 : Memref sig .tc .vmem S256x15880 .bf16) (harg9 : arg9.IsWhole)
  (x0 : Vec F S1x256x15200 .f32) (x1 : Vec F S9x256x256 .bf16) (x2 : Vec F S16x256 .bf16) (x3 : Vec F S256x1 .f32)
  (x4 : Vec F S16x1 .f32)

/-- What a call on row group `g` over canvas `cv` ends with. -/
def ends (cv : Vec F S256x15880 .bf16) (g : Fin 5) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4
    ∗ owns (c : Thread nD τ) arg7 fullShare (boxOf (slabs cv g) x1 x2 x3 x4)
    ∗ owns (c : Thread nD τ) arg8 fullShare (clsOf (slabs cv g) x1 x2 x3 x4)
    ∗ owns (c : Thread nD τ) arg9 fullShare cv)

/-- A run of a call, from what it needs of the canvas (`S`) to its output stores and the canvas (`S'`), ends with
    `ends` once the stores are those of the two blocks. -/
theorem call_of {cv : Vec F S256x15880 .bf16} {g : Fin 5} {S S₀ S' : sProp 𝕄} (P : (PUnit → sProp 𝕄) → sProp 𝕄)
    {L5 : List (View.Piece (Elt F) S1x3040x12 .f32)} {L6 : List (View.Piece (Elt F) S1x3040x3 .f32)}
    (run : ∀ K : PUnit → sProp 𝕄, iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (∃ d, owns (c : Thread nD τ) arg8 fullShare d) ∗ S₀
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4
          ∗ (∃ f, arg7.view.loc (c : Thread nD τ) ↦[arg7.view.set]{fullShare} arg7.view.writes (Elt F) f L5)
          ∗ (∃ f, arg8.view.loc (c : Thread nD τ) ↦[arg8.view.set]{fullShare} arg8.view.writes (Elt F) f L6)
          ∗ S') -∗ K ⟨⟩)) ⊢ P K)
    (h5 : L5 = boxPieces (boxOf (slabs cv g) x1 x2 x3 x4)) (h6 : L6 = clsPieces (clsOf (slabs cv g) x1 x2 x3 x4))
    (hS₀ : S ⊢ S₀) (hS : S' ⊢ owns (c : Thread nD τ) arg9 fullShare cv) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (∃ d, owns (c : Thread nD τ) arg8 fullShare d) ∗ S
        ∗ (ends c arg2 arg3 arg4 arg5 arg6 arg7 arg8 arg9 x0 x1 x2 x3 x4 cv g -∗ K ⟨⟩)) ⊢ P K := by
  subst h5 h6
  refine BIBase.Entails.trans ?_ (run K)
  iintro ⟨H2, H3, H4, H5, H6, H7, H8, HS, Hk⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iapply hS₀; iexact HS
  iintro ⟨H2, H3, H4, H5, H6, H7, H8, HS⟩
  iapply Hk
  unfold ends
  isplitl [H2]; · iexact H2
  isplitl [H3]; · iexact H3
  isplitl [H4]; · iexact H4
  isplitl [H5]; · iexact H5
  isplitl [H6]; · iexact H6
  isplitl [H7]; · iapply owns_box; iexact H7
  isplitl [H8]; · iapply owns_cls; iexact H8
  iapply hS; iexact HS

end Call

/-- The row group of a grid point: the grid runs over the images and, within each, over the five groups. -/
def grp (t : Fin cfg0.N) : Fin 5 := ⟨t.val % 5, Nat.mod_lt _ (by decide)⟩

/-- THE CALL at grid point `t`, on any whole buffers: from the operand blocks, the output blocks at anything and the
    canvas at `d`, which is `cv` already unless the group is the image's first, to `ends`. -/
theorem call (t : Fin cfg0.N) (c : Dev nD) (arg2 : Memref sig .tc .vmem S1x256x15200 .f32) (harg2 : arg2.IsWhole) (arg3 : Memref sig .tc .vmem S9x256x256 .bf16) (harg3 : arg3.IsWhole) (arg4 : Memref sig .tc .vmem S16x256 .bf16) (harg4 : arg4.IsWhole) (arg5 : Memref sig .tc .vmem S256x1 .f32) (harg5 : arg5.IsWhole)
  (arg6 : Memref sig .tc .vmem S16x1 .f32) (harg6 : arg6.IsWhole) (arg7 : Memref sig .tc .vmem S1x3040x12 .f32) (harg7 : arg7.IsWhole) (arg8 : Memref sig .tc .vmem S1x3040x3 .f32) (harg8 : arg8.IsWhole) (arg9 : Memref sig .tc .vmem S256x15880 .bf16) (harg9 : arg9.IsWhole)
  (x0 : Vec F S1x256x15200 .f32) (x1 : Vec F S9x256x256 .bf16) (x2 : Vec F S16x256 .bf16) (x3 : Vec F S256x1 .f32)
  (x4 : Vec F S16x1 .f32) (cv d : Vec F S256x15880 .bf16) (first : t.val % 5 = 0 → cv = canvas x0)
  (later : t.val % 5 ≠ 0 → d = cv) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (∃ d, owns (c : Thread nD τ) arg8 fullShare d) ∗ owns (c : Thread nD τ) arg9 fullShare d
        ∗ (ends c arg2 arg3 arg4 arg5 arg6 arg7 arg8 arg9 x0 x1 x2 x3 x4 cv (grp t) -∗ K ⟨⟩))
      ⊢ wp frame (wpE (defs₀ (F := F)) Variants.none c none) E
          (cc0__rpn_head (grid0.coords t) arg2 harg2 arg3 harg3 arg4 harg4 arg5 harg5 arg6 harg6 arg7 harg7 arg8 harg8
            arg9 harg9) K := by
  have c0 := hcond0_0 t
  have c1 := hcond0_1 t
  have c2 := hcond0_2 t
  have c3 := hcond0_3 t
  have c4 := hcond0_4 t
  have c5 := hcond0_5 t
  obtain h | h | h | h | h : t.val % 5 = 0 ∨ t.val % 5 = 1 ∨ t.val % 5 = 2 ∨ t.val % 5 = 3 ∨ t.val % 5 = 4 := by omega
  · rw [show grp t = 0 from Fin.ext h, first h]
    rw [h] at c0 c1 c2 c3 c4 c5
    have n0 := c0.mpr rfl
    have n1 := c1.mpr rfl
    have n2 := mt c2.mp (by decide)
    have n3 := mt c3.mp (by decide)
    have n4 := mt c4.mp (by decide)
    have n5 := mt c5.mp (by decide)
    exact call_of c arg2 arg3 arg4 arg5 arg6 arg7 arg8 arg9 x0 x1 x2 x3 x4 _
      (fun K => (kernelRun0_A c (grid0.coords t) _ harg2 _ harg3 _ harg4 _ harg5 _ harg6 _ harg7 _ harg8 _ harg9 n0 n1 n2 n3 n4 n5 x0 x1 x2 x3 x4).2.2.2 E K)
      (box_A c _ _ harg2 _ harg3 _ harg4 _ harg5 _ harg6 _ harg7 _ harg8 _ harg9 x0 x1 x2 x3 x4 n0 n1 n2 n3 n4 n5)
      (cls_A c _ _ harg2 _ harg3 _ harg4 _ harg5 _ harg6 _ harg7 _ harg8 _ harg9 x0 x1 x2 x3 x4 n0 n1 n2 n3 n4 n5)
      (exists_intro d)
      (owns_canvas c arg9 x0 (canvas_A c _ _ harg2 _ harg3 _ harg4 _ harg5 _ harg6 _ harg7 _ harg8 _ harg9 x0 x1 x2 x3 x4 n0 n1 n2 n3 n4 n5)) K
  · rw [show grp t = 1 from Fin.ext h, later (by omega)]
    rw [h] at c0 c1 c2 c3 c4 c5
    have n0 := mt c0.mp (by decide)
    have n1 := mt c1.mp (by decide)
    have n2 := c2.mpr rfl
    have n3 := mt c3.mp (by decide)
    have n4 := mt c4.mp (by decide)
    have n5 := mt c5.mp (by decide)
    exact call_of c arg2 arg3 arg4 arg5 arg6 arg7 arg8 arg9 x0 x1 x2 x3 x4 _
      (fun K => (kernelRun0_B c (grid0.coords t) _ harg2 _ harg3 _ harg4 _ harg5 _ harg6 _ harg7 _ harg8 _ harg9 n0 n1 n2 n3 n4 n5 x0 x1 x2 x3 x4 cv).2.2.2 E K)
      (box_B c _ _ harg2 _ harg3 _ harg4 _ harg5 _ harg6 _ harg7 _ harg8 _ harg9 x0 x1 x2 x3 x4 cv n0 n1 n2 n3 n4 n5)
      (cls_B c _ _ harg2 _ harg3 _ harg4 _ harg5 _ harg6 _ harg7 _ harg8 _ harg9 x0 x1 x2 x3 x4 cv n0 n1 n2 n3 n4 n5)
      .rfl .rfl K
  · rw [show grp t = 2 from Fin.ext h, later (by omega)]
    rw [h] at c0 c1 c2 c3 c4 c5
    have n0 := mt c0.mp (by decide)
    have n1 := mt c1.mp (by decide)
    have n2 := mt c2.mp (by decide)
    have n3 := c3.mpr rfl
    have n4 := mt c4.mp (by decide)
    have n5 := mt c5.mp (by decide)
    exact call_of c arg2 arg3 arg4 arg5 arg6 arg7 arg8 arg9 x0 x1 x2 x3 x4 _
      (fun K => (kernelRun0_C c (grid0.coords t) _ harg2 _ harg3 _ harg4 _ harg5 _ harg6 _ harg7 _ harg8 _ harg9 n0 n1 n2 n3 n4 n5 x0 x1 x2 x3 x4 cv).2.2.2 E K)
      (box_C c _ _ harg2 _ harg3 _ harg4 _ harg5 _ harg6 _ harg7 _ harg8 _ harg9 x0 x1 x2 x3 x4 cv n0 n1 n2 n3 n4 n5)
      (cls_C c _ _ harg2 _ harg3 _ harg4 _ harg5 _ harg6 _ harg7 _ harg8 _ harg9 x0 x1 x2 x3 x4 cv n0 n1 n2 n3 n4 n5)
      .rfl .rfl K
  · rw [show grp t = 3 from Fin.ext h, later (by omega)]
    rw [h] at c0 c1 c2 c3 c4 c5
    have n0 := mt c0.mp (by decide)
    have n1 := mt c1.mp (by decide)
    have n2 := mt c2.mp (by decide)
    have n3 := mt c3.mp (by decide)
    have n4 := c4.mpr rfl
    have n5 := mt c5.mp (by decide)
    exact call_of c arg2 arg3 arg4 arg5 arg6 arg7 arg8 arg9 x0 x1 x2 x3 x4 _
      (fun K => (kernelRun0_D c (grid0.coords t) _ harg2 _ harg3 _ harg4 _ harg5 _ harg6 _ harg7 _ harg8 _ harg9 n0 n1 n2 n3 n4 n5 x0 x1 x2 x3 x4 cv).2.2.2 E K)
      (box_D c _ _ harg2 _ harg3 _ harg4 _ harg5 _ harg6 _ harg7 _ harg8 _ harg9 x0 x1 x2 x3 x4 cv n0 n1 n2 n3 n4 n5)
      (cls_D c _ _ harg2 _ harg3 _ harg4 _ harg5 _ harg6 _ harg7 _ harg8 _ harg9 x0 x1 x2 x3 x4 cv n0 n1 n2 n3 n4 n5)
      .rfl .rfl K
  · rw [show grp t = 4 from Fin.ext h, later (by omega)]
    rw [h] at c0 c1 c2 c3 c4 c5
    have n0 := mt c0.mp (by decide)
    have n1 := mt c1.mp (by decide)
    have n2 := mt c2.mp (by decide)
    have n3 := mt c3.mp (by decide)
    have n4 := mt c4.mp (by decide)
    have n5 := c5.mpr rfl
    exact call_of c arg2 arg3 arg4 arg5 arg6 arg7 arg8 arg9 x0 x1 x2 x3 x4 _
      (fun K => (runLast c (grid0.coords t) _ harg2 _ harg3 _ harg4 _ harg5 _ harg6 _ harg7 _ harg8 _ harg9 n0 n1 n2 n3 n4 n5 x0 x1 x2 x3 x4 cv).2.2.2 E K)
      (box_E c _ _ harg2 _ harg3 _ harg4 _ harg5 _ harg6 _ harg7 _ harg8 _ harg9 x0 x1 x2 x3 x4 cv n0 n1 n2 n3 n4 n5)
      (cls_E c _ _ harg2 _ harg3 _ harg4 _ harg5 _ harg6 _ harg7 _ harg8 _ harg9 x0 x1 x2 x3 x4 cv n0 n1 n2 n3 n4 n5)
      .rfl .rfl K

end Cert.Rpn.Kernel

end
-- ==== Proof.KernelFrame.lean ====
/- The launch: what every buffer of the pipeline holds at every grid point, and the run of the whole program from it.
   The canvas is refilled at the first row group of each image and read by the image's other four. -/
module

public import proofs.«01_k».proof.Proof.KernelCall
public import Idealize.ShloMosaic.Lib.Claim

@[expose] public section

set_option maxRecDepth 16384

noncomputable section

namespace Cert.Rpn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of the first row group of point `n`'s image. -/
def imageStart (n : ℕ) (hn : n < cfg0.N) : Fin cfg0.N := ⟨n / 5 * 5, lt_of_le_of_lt (Nat.div_mul_le_self n 5) hn⟩

/-- The canvas after point `n`: that of the point's image. -/
def canvasAt (c : Dev nD) (n : ℕ) (hn : n < cfg0.N) : Vec F S256x15880 .bf16 := canvas (iblk m c 0 (imageStart n hn))

/-- The box block that point `t` leaves. -/
def boxAt (c : Dev nD) (t : Fin cfg0.N) : Vec F S1x3040x12 .f32 :=
  boxOf (slabs (canvasAt m c t.val t.isLt) (grp t)) (iblk m c 1 t) (iblk m c 2 t) (iblk m c 3 t) (iblk m c 4 t)

/-- The class block that point `t` leaves. -/
def clsAt (c : Dev nD) (t : Fin cfg0.N) : Vec F S1x3040x3 .f32 :=
  clsOf (slabs (canvasAt m c t.val t.isLt) (grp t)) (iblk m c 1 t) (iblk m c 2 t) (iblk m c 3 t) (iblk m c 4 t)

/-- What the core holds besides the windows before point `n`: the canvas, at anything before the first point and at the
    image's of the point before from then on, and the generator register. -/
def carried (c : Dev nD) : (n : ℕ) → n ≤ cfg0.N → sProp 𝕄
  | 0, _ => Pipeline.ΦA spec0 c
  | n + 1, hn => iprop(owns (c : Thread nD τ) scM0_0 fullShare (canvasAt m c n hn) ∗ (∃ r, prngReg c r))

/-- Before point `t` the canvas is the point's image's, unless the point is the image's first. -/
theorem carried_before (c : Dev nD) (n : ℕ) (hn : n < cfg0.N) :
    carried m c n (Nat.le_of_lt hn)
      ⊢ iprop(∃ d, ⌜n % 5 ≠ 0 → d = canvasAt m c n hn⌝ ∗ owns (c : Thread nD τ) scM0_0 fullShare d ∗ (∃ r, prngReg c r)) := by
  cases n with
  | zero =>
    rw [show carried m c 0 (Nat.le_of_lt hn) = Pipeline.ΦA spec0 c from rfl, PhiA0_eq]
    iintro ⟨⟨%d, HS⟩, Hg⟩
    iexists d
    isplitr
    · ipureintro; intro h; exact absurd rfl h
    isplitl [HS]; · iexact HS
    iexact Hg
  | succ k =>
    rw [show carried m c (k + 1) (Nat.le_of_lt hn)
      = iprop(owns (c : Thread nD τ) scM0_0 fullShare (canvasAt m c k (Nat.le_of_lt hn)) ∗ (∃ r, prngReg c r)) from rfl]
    iintro ⟨HS, Hg⟩
    iexists _
    isplitr
    swap
    · isplitl [HS]; · iexact HS
      iexact Hg
    ipureintro
    intro h
    have e : imageStart k (Nat.le_of_lt hn) = imageStart (k + 1) hn := Fin.ext (by
      simp only [imageStart]; omega)
    unfold canvasAt; rw [e]

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => boxAt m c t
    | ⟨6, _⟩ => clsAt m c t
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Φ_before (c : Dev nD) (t : Fin cfg0.N) :
    (dats m 0 c).Φ t.castSucc = carried m c t.val (Nat.le_of_lt t.isLt) := by
  dsimp only [dats]; exact Pipeline.Dat.Φ_castSucc (carried m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = boxAt m c t := by dsimp only [dats]
theorem after_6 (c : Dev nD) (t : Fin cfg0.N) : (dats m 0 c).after 6 t = clsAt m c t := by dsimp only [dats]

/-- An input's staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- No window is idle at any point. -/
theorem live (w : Fin cfg0.W) (t : Fin cfg0.N) : cfg0.idle w (grid0.coords t) = false :=
  (by decide +kernel : ∀ (w : Fin cfg0.W) (t : Fin cfg0.N), cfg0.idle w (grid0.coords t) = false) w t

/-- So each window's buffer must end at the value the data name. -/
theorem leaves_0 (c : Dev nD) (t : Fin cfg0.N) :
    (dats m 0 c).leavesExact 0 t = owns (c : Thread nD τ) (ms0_0 t) fullShare (iblk m c 0 t) := by
  rw [← after_0 m c t]
theorem leaves_1 (c : Dev nD) (t : Fin cfg0.N) :
    (dats m 0 c).leavesExact 1 t = owns (c : Thread nD τ) (ms0_1 t) fullShare (iblk m c 1 t) := by
  rw [← after_1 m c t]
theorem leaves_2 (c : Dev nD) (t : Fin cfg0.N) :
    (dats m 0 c).leavesExact 2 t = owns (c : Thread nD τ) (ms0_2 t) fullShare (iblk m c 2 t) := by
  rw [← after_2 m c t]
theorem leaves_3 (c : Dev nD) (t : Fin cfg0.N) :
    (dats m 0 c).leavesExact 3 t = owns (c : Thread nD τ) (ms0_3 t) fullShare (iblk m c 3 t) := by
  rw [← after_3 m c t]
theorem leaves_4 (c : Dev nD) (t : Fin cfg0.N) :
    (dats m 0 c).leavesExact 4 t = owns (c : Thread nD τ) (ms0_4 t) fullShare (iblk m c 4 t) := by
  rw [← after_4 m c t]
theorem leaves_5 (c : Dev nD) (t : Fin cfg0.N) :
    (dats m 0 c).leavesExact 5 t = owns (c : Thread nD τ) (ms0_5 t) fullShare (boxAt m c t) := by
  rw [← after_5 m c t]; unfold Dat.leavesExact; rw [live 5 t]
theorem leaves_6 (c : Dev nD) (t : Fin cfg0.N) :
    (dats m 0 c).leavesExact 6 t = owns (c : Thread nD τ) (ms0_6 t) fullShare (clsAt m c t) := by
  rw [← after_6 m c t]; unfold Dat.leavesExact; rw [live 6 t]

/-- What the call at point `t` is made with, window by window, -/
def callPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it must end with. -/
def callPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- The call at every point: `call` at the point's blocks and its image's canvas. -/
theorem call_sound (c : Dev nD) (t : Fin cfg0.N) :
    callPre m c t ⊢ wp frame (wpE (defs₀ (F := F)) Variants.none c none) Set.univ (bodyAt0 t) (fun _ => callPost m c t) := by
  unfold callPre callPost bodyAt0
  simp only [before_0, before_1, before_2, before_3, before_4, leaves_0, leaves_1, leaves_2, leaves_3, leaves_4, leaves_5,
    leaves_6]
  rw [show (dats m 0 c).owesAt () t.succ = (dats m 0 c).owesAt () t.castSucc from rfl, Φ_before m c t,
    show (dats m 0 c).Φ t.succ = iprop(owns (c : Thread nD τ) scM0_0 fullShare (canvasAt m c t.val t.isLt)
      ∗ (∃ r, prngReg c r)) from rfl]
  refine BIBase.Entails.trans (sep_mono (carried_before m c t.val t.isLt) .rfl) ?_
  iintro ⟨⟨%d, %later, HS, Hg⟩, Ho, ⟨%d0, H0⟩, ⟨%d1, H1⟩, ⟨%d2, H2⟩, ⟨%d3, H3⟩, ⟨%d4, H4⟩, ⟨%d5, H5⟩, ⟨%d6, H6⟩⟩
  iapply (call t c (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t)
    (iblk m c 3 t) (iblk m c 4 t) (canvasAt m c t.val t.isLt) d
    (fun h => by
      have e : imageStart t.val t.isLt = t := Fin.ext (by simp only [imageStart]; omega)
      unfold canvasAt; rw [e]) later Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  unfold ends
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's row of the body table at point `t` is the call at the point's buffers. -/
theorem row (t : Fin cfg0.N) : defs₀ (F := F) .tc cfg0.body (cfg0.bodyArgs t (cfg0.slots t)) = bodyAt0 t := by
  unfold defs₀; rw [Defs.onTc_tc]

/-- The call keeps the proof data at every point. -/
theorem call_keeps (c : Dev nD) : BodyObligation (dats (F := F) m 0 c) (defs₀ (F := F)) Variants.none () Set.univ := fun t => by
  rw [bigSep_W0, bigSep_W0, row]
  exact triple_restated (call_sound m c t) rfl .rfl fun _ => .rfl

/-- After the last point the canvas's contents are forgotten. -/
theorem carried_end (c : Dev nD) : (dats m 0 c).Φ (Fin.last cfg0.N) ⊢ Pipeline.ΦA spec0 c := by
  have hN : (Fin.last cfg0.N).val = 19 + 1 := N_0
  have hL : 19 + 1 ≤ cfg0.N := le_of_eq N_0.symm
  rw [show (dats m 0 c).Φ (Fin.last cfg0.N) = carried m c (19 + 1) hL by dsimp only [dats]; congr 1, PhiA0_eq]
  rw [show carried m c (19 + 1) hL
    = iprop(owns (c : Thread nD τ) scM0_0 fullShare (canvasAt m c 19 hL) ∗ (∃ r, prngReg c r)) from rfl]
  iintro ⟨HS, Hg⟩
  isplitl [HS]
  · iexists _; iexact HS
  iexact Hg

set_option backward.isDefEq.respectTransparency.types false in
set_option maxHeartbeats 800000 in
/-- THE RUN: from any memory with every counter at zero, every fair execution of the program ends, with the pipeline's
    arrays at what the proof data make of them, every other buffer as the host lines leave it, and every counter at zero. -/
theorem run : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (call_keeps m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := carried_end m)

/-- The run leaves every argument as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) ((θ_run defs _ _).mono (fun _ h => h.1) (run m ρ))

/-- THE FRAME: every fair execution ends, with the arguments as they were and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run m ρ))

end Cert.Rpn.Kernel

end
-- ==== Proof.KernelSame.lean ====
/- The kernel as printed and the kernel as idealized are one program text (the idealization rewrites nothing), so the frame
   proved for the second, at any values, is that of the first. -/
module

public import proofs.«01_k».proof.Defs
public import proofs.«01_k».proof.Proof.Gen.Kernel
public import proofs.«01_k».proof.Proof.KernelFrame

@[expose] public section

set_option maxRecDepth 65536

noncomputable section

namespace Cert.Rpn.Kernel

open Idealize.ShloMosaic Idealize.ShloMosaic.TcCoe Idealize.ShloMosaic.Tactic Idealize.SL.Sem

/-- The frame of the idealized text, at the machine's words. -/
def frameAtBits : Prop :=
  ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
      r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3)
          = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4)
          = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5)
          = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6)
          = m ((c.tc : Thread Cert.KernelIdeal.nD Cert.KernelIdeal.τ).loc Cert.KernelIdeal.main_arg6))
      ∧ r.2.sem = fun _ => 0)

/-- The two statements are one, the two texts being one. -/
theorem frame_same : Cert.quiescent_Kernel (hKernel := Cert.Kernel.Gen.facts) = frameAtBits := by sl_kernel_rfl

/-- THE FRAME of the kernel as printed. -/
theorem frame_printed : Cert.quiescent_Kernel (hKernel := Cert.Kernel.Gen.facts) :=
  frame_same.mpr fun m ρ _ => frame_holds (F := Bits) m ρ

end Cert.Rpn.Kernel

end
-- ==== Proof.Spec.lean ====
module

public import Idealize.ShloMosaic.Lib.Pointwise

/-! The mathematics of the region proposal head, written once: a 3x3 convolution of the zero
padded image, a bias and a rectifier, and two 1x1 convolutions of the result. Both programs are
compared with the functions of this file. -/

@[expose] public section

noncomputable section

namespace Cert.Rpn

open Idealize.ShloMosaic

/-- The images `[4, 256, 100, 152]`. -/
abbrev Img := Vec Ideal ⟨4, ![4, 256, 100, 152]⟩ .f32

/-- The weights `[256, 256, 3, 3]` of the 3x3 convolution. -/
abbrev W3 := Vec Ideal ⟨4, ![256, 256, 3, 3]⟩ .f32

/-- The bias `[256]` of the 3x3 convolution. -/
abbrev B3 := Vec Ideal ⟨1, ![256]⟩ .f32

/-- Channel `c` of image `n` with a border of zeros, at row `R` of 102 and column `S` of 154. -/
def padded (x : Img) (n : Fin 4) (c : Fin 256) (R S : ℕ) : EReal :=
  if h : (1 ≤ R ∧ R < 101) ∧ (1 ≤ S ∧ S < 153) then
    x (ix4 n c ⟨R - 1, by omega⟩ ⟨S - 1, by omega⟩) else 0

/-- What tap `(di, dj)` of the 3x3 convolution adds to output channel `o` at pixel `(r, s)`. -/
def tap (x : Img) (w : W3) (n : Fin 4) (o : Fin 256) (r s : ℕ) (di dj : Fin 3) : EReal :=
  ∑ c : Fin 256, w (ix4 o c di dj) * padded x n c (r + di) (s + dj)

/-- The 3x3 convolution, its nine taps added in row-major order. -/
def conv (x : Img) (w : W3) (n : Fin 4) (o : Fin 256) (r s : ℕ) : EReal :=
  tap x w n o r s 0 0 + tap x w n o r s 0 1 + tap x w n o r s 0 2
    + tap x w n o r s 1 0 + tap x w n o r s 1 1 + tap x w n o r s 1 2
    + tap x w n o r s 2 0 + tap x w n o r s 2 1 + tap x w n o r s 2 2

/-- The hidden layer: the convolution plus its bias, and zero where that is negative. -/
def hidden (x : Img) (w : W3) (b : B3) (n : Fin 4) (o : Fin 256) (r s : ℕ) : EReal :=
  max (conv x w n o r s + b (ix1 o)) 0

/-- One channel of a 1x1 convolution of the hidden layer, with weights `wc` and bias `bc`. -/
def head (x : Img) (w : W3) (b : B3) (wc : Fin 256 → EReal) (bc : EReal) (n : Fin 4) (r s : ℕ) :
    EReal :=
  (∑ o : Fin 256, wc o * hidden x w b n o r s) + bc

/-- The box array `[4, 15200, 12]`: twelve channels per pixel, pixels in row-major order. -/
def box (x : Img) (w : W3) (b : B3) (rw : Vec Ideal ⟨4, ![12, 256, 1, 1]⟩ .f32)
    (rb : Vec Ideal ⟨1, ![12]⟩ .f32) : Vec Ideal ⟨3, ![4, 15200, 12]⟩ .f32 := fun j =>
  head x w b (fun o => rw (ix4 (j 2) o 0 0)) (rb (ix1 (j 2))) (j 0) ((j 1).val / 152)
    ((j 1).val % 152)

/-- The class array `[4, 15200, 3]`: three channels per pixel, pixels in row-major order. -/
def cls (x : Img) (w : W3) (b : B3) (cw : Vec Ideal ⟨4, ![3, 256, 1, 1]⟩ .f32)
    (cb : Vec Ideal ⟨1, ![3]⟩ .f32) : Vec Ideal ⟨3, ![4, 15200, 3]⟩ .f32 := fun j =>
  head x w b (fun o => cw (ix4 (j 2) o 0 0)) (cb (ix1 (j 2))) (j 0) ((j 1).val / 152)
    ((j 1).val % 152)

end Cert.Rpn

end
-- ==== Proof.RefRead.lean ====
module

public import proofs.«01_k».proof.Proof.Gen.ReferenceIdeal.Read
public import proofs.«01_k».proof.Proof.Spec

@[expose] public section

set_option maxRecDepth 16384

noncomputable section

namespace Cert.Rpn.Ref

open Idealize.ShloMosaic Cert.ReferenceIdeal Cert.ReferenceIdeal.Read

/-- The padded image at a row and a column. -/
theorem pad_apply (x : Img) (n : Fin 4) (c : Fin 256) (R : Fin 102) (S : Fin 154) :
    val_main_v0 (F := Ideal) x (ix4 n c R S) = padded x n c R S := by
  unfold val_main_v0 padded
  pointwise [val_main_call0_v0, val_main_c]
  have h0 : FloatOps.sitofp (F := Ideal) FTy.f32 0#32 = 0 := by simp [FloatOps.sitofp]
  rw [h0]
  by_cases h : (1 ≤ R.val ∧ R.val < 101) ∧ 1 ≤ S.val ∧ S.val < 153
  · rw [dif_pos (by omega), dif_pos h]
  · rw [dif_neg (by omega), dif_neg h]

/-- The sum of the nine shifted contractions is the 3x3 convolution. -/
theorem conv_apply (x : Img) (w : W3) (n : Fin 4) (o : Fin 256) (r : Fin 100) (s : Fin 152) :
    val_main_v55 (F := Ideal) x w (ix4 n o r s) = conv x w n o r s := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, pad_apply]
  unfold conv tap
  simp only [mul_comm (w _), Nat.add_comm _ r.val, Nat.add_comm _ s.val, Fin.val_zero, Fin.val_one,
    Fin.val_two, Nat.add_zero]

/-- The rectified convolution of the reference is the hidden layer. -/
theorem hidden_apply (x : Img) (w : W3) (b : B3) (n : Fin 4) (o : Fin 256) (r : Fin 100)
    (s : Fin 152) :
    val_main_v59 (F := Ideal) x w b (ix4 n o r s) = hidden x w b n o r s := by
  pointwise [val_main_v59, val_main_v58, val_main_v57, val_main_v56, val_main_call1_v0,
    val_main_call1_cst, conv_apply]
  rfl

/-- The contraction of either 1x1 convolution at flat position `p` of one image's result. -/
theorem hidden_sum (x : Img) (w : W3) (b : B3) (wc : Fin 256 → EReal) (n : Fin 4) (p : ℕ)
    (hp : p < 45600) (z : EReal) :
    (∑ o : Fin 256, (if h : p / 456 < 100 ∧ p / 3 % 152 < 152 then
        val_main_v59 (F := Ideal) x w b (ix4 n o ⟨p / 456, h.1⟩ ⟨p / 3 % 152, h.2⟩) else z) * wc o)
      = ∑ o : Fin 256, wc o * hidden x w b n o (p / 3 / 152) (p / 3 % 152) := by
  refine Finset.sum_congr rfl fun o _ => ?_
  rw [dif_pos (by omega), hidden_apply, mul_comm, Nat.div_div_eq_div_mul]

/-- The reference's boxes are the box array, reshaped. -/
theorem box_eq (x : Img) (w : W3) (b : B3) (rw : Vec Ideal ⟨4, ![12, 256, 1, 1]⟩ .f32)
    (rb : Vec Ideal ⟨1, ![12]⟩ .f32)
    (h : (⟨3, ![4, 15200, 12]⟩ : Shape).ShapeCasts ⟨3, ![4, 45600, 4]⟩) :
    val_main_v79 (F := Ideal) x w b rw rb = shapeCast _ (box x w b rw rb) h := by
  funext j
  idx_vars j
  pointwise [val_main_v79, val_main_v78, val_main_v77, val_main_v76, val_main_v75, val_main_v74,
    val_main_v73, val_main_v72, val_main_v71, val_main_v70, val_main_v69, val_main_call3_v0,
    val_main_cst_3, box]
  rw [hidden_sum x w b _ j0 j1 j1.isLt]
  rfl

/-- The reference's class scores are the class array, reshaped. -/
theorem cls_eq (x : Img) (w : W3) (b : B3) (cw : Vec Ideal ⟨4, ![3, 256, 1, 1]⟩ .f32)
    (cb : Vec Ideal ⟨1, ![3]⟩ .f32)
    (h : (⟨3, ![4, 15200, 3]⟩ : Shape).ShapeCasts ⟨3, ![4, 45600, 1]⟩) :
    val_main_v81 (F := Ideal) x w b cw cb = shapeCast _ (cls x w b cw cb) h := by
  funext j
  idx_vars j
  pointwise [val_main_v81, val_main_v80, val_main_v68, val_main_v67, val_main_v66, val_main_v65,
    val_main_v64, val_main_v63, val_main_v62, val_main_v61, val_main_v60, val_main_call2_v0,
    val_main_cst_1, cls]
  rw [hidden_sum x w b _ j0 j1 j1.isLt]
  rfl

end Cert.Rpn.Ref

end
-- ==== Proof.KernelOperands.lean ====
/- What the pipeline's five input arrays hold when it starts, over the reals, at an element: the host lines before it
   flatten the images' pixels, lay the 3x3 weights out tap by tap, and stack the two heads' weights and biases. -/
module

public import proofs.«01_k».proof.Proof.KernelFrame
public import Idealize.ShloMosaic.Lib.Pointwise
public import Idealize.ShloMosaic.Lib.StableHlo.ReadAt

@[expose] public section

set_option maxRecDepth 16384

noncomputable section

namespace Cert.Rpn.Kernel

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The image array: pixel `(q / 152, q % 152)` at position `q`. -/
theorem images_apply (n : Fin 4) (ch : Fin 256) (q : Fin 15200) :
    V m c main_v0 (ix3 n ch q)
      = m ((c : Thread nD τ).loc main_arg0) (ix4 n ch ⟨q.val / 152, by omega⟩ ⟨q.val % 152, by omega⟩) := by
  unfold V V0
  after_reads_at

/-- The 3x3 weights: tap `k` is row `k / 3`, column `k % 3`. -/
theorem taps_apply (k : Fin 9) (o ch : Fin 256) :
    V m c main_v3 (ix3 k o ch)
      = m ((c : Thread nD τ).loc main_arg1) (ix4 o ch ⟨k.val / 3, by omega⟩ ⟨k.val % 3, by omega⟩) := by
  unfold V V0
  after_reads_at

/-- The hidden layer's bias. -/
theorem bias_apply (o : Fin 256) :
    V m c main_v11 (ix2 o 0) = m ((c : Thread nD τ).loc main_arg2) (ix1 o) := by
  unfold V V0
  after_reads_at

/-- The head weights: rows 0 to 11 are the box head's, -/
theorem boxWeights_apply (d : Fin 12) (o : Fin 256) :
    V m c main_v7 (ix2 ⟨d.val, by omega⟩ o) = m ((c : Thread nD τ).loc main_arg5) (ix4 d o 0 0) := by
  unfold V V0
  after_reads_at
  rw [dif_pos (by omega)]
  after_reads_at

/-- rows 12 to 14 the class head's. -/
theorem clsWeights_apply (d : Fin 3) (o : Fin 256) :
    V m c main_v7 (ix2 ⟨12 + d.val, by omega⟩ o) = m ((c : Thread nD τ).loc main_arg3) (ix4 d o 0 0) := by
  unfold V V0
  after_reads_at
  rw [dif_pos (by omega)]
  after_reads_at

/-- The head biases, likewise. -/
theorem boxBias_apply (d : Fin 12) :
    V m c main_v10 (ix2 ⟨d.val, by omega⟩ 0) = m ((c : Thread nD τ).loc main_arg6) (ix1 d) := by
  unfold V V0
  after_reads_at
  rw [dif_pos (by omega)]
  after_reads_at

theorem clsBias_apply (d : Fin 3) :
    V m c main_v10 (ix2 ⟨12 + d.val, by omega⟩ 0) = m ((c : Thread nD τ).loc main_arg4) (ix1 d) := by
  unfold V V0
  after_reads_at
  rw [dif_pos (by omega)]
  after_reads_at

end Cert.Rpn.Kernel

end
-- ==== Proof.KernelHead.lean ====
/- The block of one row group over the reals, read at an element: a head channel at a pixel is the sum over the hidden
   channels of the rectified nine-tap sum at the pixel's lane, plus the head's bias. -/
module

public import proofs.«01_k».proof.Proof.KernelBlocks
public import Idealize.ShloMosaic.Lib.Pointwise

@[expose] public section

set_option maxRecDepth 16384

noncomputable section

namespace Cert.Rpn.Kernel

open Idealize.ShloMosaic Cert.KernelIdeal Cert.KernelIdeal.Gen

/-- One tap's contraction over the input channels, at output channel `o` and lane `l`. -/
def tapSum (w9 : Vec Ideal S9x256x256 .bf16) (s : Fin 9 → Vec Ideal S256x3080 .bf16) (o : Fin 256) (l : Fin 3080)
    (k : Fin 9) : EReal := ∑ c : Fin 256, w9 (ix3 k o c) * s k (ix2 c l)

/-- The hidden channel `o` at lane `l`. -/
def hiddenAt (w9 : Vec Ideal S9x256x256 .bf16) (s : Fin 9 → Vec Ideal S256x3080 .bf16) (b : Vec Ideal S256x1 .f32)
    (o : Fin 256) (l : Fin 3080) : EReal :=
  max (tapSum w9 s o l 0 + tapSum w9 s o l 1 + tapSum w9 s o l 2 + tapSum w9 s o l 3 + tapSum w9 s o l 4
    + tapSum w9 s o l 5 + tapSum w9 s o l 6 + tapSum w9 s o l 7 + tapSum w9 s o l 8 + b (ix2 o 0)) 0

/-- The heads before their bias, at an element. -/
theorem headsOf_apply (s : Fin 9 → Vec Ideal S256x3080 .bf16) (w9 : Vec Ideal S9x256x256 .bf16)
    (wc : Vec Ideal S16x256 .bf16) (b : Vec Ideal S256x1 .f32) (d : Fin 16) (l : Fin 3080) :
    headsOf s w9 wc b (ix2 d l) = ∑ o : Fin 256, wc (ix2 d o) * hiddenAt w9 s b o l := by
  unfold headsOf heads
  pointwise [k0_pay118, k0_pay117, hiddenAt, tapSum, tapRect]

/-- The lane of a group's row band that holds the group's pixel `p`. -/
def laneOf (p : Fin 3040) : Fin 3080 := ⟨1 + p.val / 152 * 154 + p.val % 152, by omega⟩

/-- The heads with their bias added along the lanes. -/
def biased (v : FVec Ideal S16x3080 .f32) (bc : Vec Ideal S16x1 .f32) : FVec Ideal S16x3080 .f32 :=
  addf v (broadcastTo S16x3080 (shapeCast S16x1 bc shapeCasts_S16x1_S16x1) broadcasts_S16x1_S16x3080)

theorem biased_apply (v : FVec Ideal S16x3080 .f32) (bc : Vec Ideal S16x1 .f32) (d : Fin 16) (l : Fin 3080) :
    biased v bc (ix2 d l) = v (ix2 d l) + bc (ix2 d 0) := by
  pointwise [biased]

theorem strip_slices (r : Fin 20) : S16x3080.Slices ![0, 1 + r.val * 154] S16x152 := by
  revert r; decide

/-- Row `r` of a group's twenty, cut out of its band of lanes without the border. -/
def strip (u : FVec Ideal S16x3080 .f32) (r : Fin 20) : FVec Ideal S16x152 .f32 :=
  extractStridedSlice S16x152 ![0, 1 + r.val * 154] u (strip_slices r)

theorem strip_apply (u : FVec Ideal S16x3080 .f32) (r : Fin 20) (d : Fin 16) (w : Fin 152) :
    strip u r (ix2 d w) = u (ix2 d ⟨1 + r.val * 154 + w.val, by omega⟩) := by
  pointwise [strip]

/-- The heads with their bias, transposed and without the border lanes, at an element. -/
theorem rows_apply (v : FVec Ideal S16x3080 .f32) (bc : Vec Ideal S16x1 .f32) (p : Fin 3040) (d : Fin 16) :
    k0_pay2 v bc (ix2 p d) = v (ix2 d (laneOf p)) + bc (ix2 d 0) := by
  have e : k0_pay2 v bc = transpose S3040x16 [1, 0] (concatenate S16x3040 1
      (List.ofFn fun r : Fin 20 => (⟨S16x152, strip (biased v bc) r⟩ : (s : Shape) × (s.Idx → EReal)))
      concatenates_S16x152_S16x152_S16x152_S16x152_S16x152_S16x152_S16x152_S16x152_S16x152_S16x152_S16x152_S16x152_S16x152_S16x152_S16x152_S16x152_S16x152_S16x152_S16x152_S16x152_S16x3040_d1)
      transposes_S16x3040_p1_0_S3040x16 := rfl
  have t : k0_pay2 v bc (ix2 p d) = concatenate S16x3040 1
      (List.ofFn fun r : Fin 20 => (⟨S16x152, strip (biased v bc) r⟩ : (s : Shape) × (s.Idx → EReal)))
      concatenates_S16x152_S16x152_S16x152_S16x152_S16x152_S16x152_S16x152_S16x152_S16x152_S16x152_S16x152_S16x152_S16x152_S16x152_S16x152_S16x152_S16x152_S16x152_S16x152_S16x152_S16x3040_d1
      (ix2 d p) := by
    rw [e]
    generalize concatenate S16x3040 1 _ _ = z
    pointwise
  refine (t.trans (concatenate_ofFn_apply (1 : Fin S16x3040.rank) (strip (biased v bc)) _ rfl 152 rfl (ix2 d p)
    ⟨p.val / 152, by omega⟩ rfl (ix2 d ⟨p.val % 152, by omega⟩) rfl ?_)).trans ?_
  · intro a ha
    fin_cases a <;> first | rfl | exact absurd rfl ha
  · rw [strip_apply, biased_apply]
    rfl

/-- The box block of a group, at an element. -/
theorem boxOf_apply (s : Fin 9 → Vec Ideal S256x3080 .bf16) (w9 : Vec Ideal S9x256x256 .bf16)
    (wc : Vec Ideal S16x256 .bf16) (b : Vec Ideal S256x1 .f32) (bc : Vec Ideal S16x1 .f32) (p : Fin 3040) (d : Fin 12) :
    boxOf s w9 wc b bc (ix3 0 p d) = ∑ o : Fin 256, wc (ix2 ⟨d.val, by omega⟩ o) * hiddenAt w9 s b o (laneOf p)
      + bc (ix2 ⟨d.val, by omega⟩ 0) := by
  unfold boxOf
  pointwise [k0_pay3, rows_apply, headsOf_apply]

/-- The class block of a group, at an element. -/
theorem clsOf_apply (s : Fin 9 → Vec Ideal S256x3080 .bf16) (w9 : Vec Ideal S9x256x256 .bf16)
    (wc : Vec Ideal S16x256 .bf16) (b : Vec Ideal S256x1 .f32) (bc : Vec Ideal S16x1 .f32) (p : Fin 3040) (d : Fin 3) :
    clsOf s w9 wc b bc (ix3 0 p d) = ∑ o : Fin 256, wc (ix2 ⟨12 + d.val, by omega⟩ o) * hiddenAt w9 s b o (laneOf p)
      + bc (ix2 ⟨12 + d.val, by omega⟩ 0) := by
  unfold clsOf
  pointwise [k0_pay4, rows_apply, headsOf_apply]

end Cert.Rpn.Kernel

end
-- ==== Proof.KernelCanvas.lean ====
/- The canvas over the reals, read at an element: the padded image. A window that a tap reads is the padded image
   moved by the tap's row and column. -/
module

public import proofs.«01_k».proof.Proof.KernelBlocks
public import proofs.«01_k».proof.Proof.Spec
public import Idealize.ShloMosaic.Lib.Pointwise

@[expose] public section

set_option maxRecDepth 16384

noncomputable section

namespace Cert.Rpn.Kernel

open Idealize.ShloMosaic Cert.KernelIdeal Cert.KernelIdeal.Gen

/-- A stored row, at an element: the image block's own. -/
theorem row_apply (x : Vec Ideal S1x256x15200 .f32) (r : Fin 100) (c : Fin 256) (w : Fin 152) :
    k0_pay18 (View.ld x (rowRect r)) (ix2 c w) = x (ix3 0 c ⟨r.val * 152 + w.val, by omega⟩) := by
  pointwise [k0_pay18, rowRect]

/-- The fill, at an element: zero. -/
theorem fill_apply (j : S256x15880.Idx) : (k0_pay17 (F := Ideal)) j = 0 := by
  pointwise [k0_pay17]

/-- Where the canvas holds row `r`: its element `(c, w)` lies at lane `163 + 154 r + w`. -/
theorem lane_emb (r : Fin 100) (c : Fin 256) (w : Fin 152) :
    (laneRect r).emb (ix2 c w) = ix2 c ⟨163 + r.val * 154 + w.val, by omega⟩ := by
  funext a
  apply Fin.ext
  have h := (laneRect r).emb_apply (ix2 c w) a
  fin_cases a
  · exact h.trans (show 0 + 1 * c.val = c.val by omega)
  · exact h.trans (show 163 + r.val * 154 + 1 * w.val = 163 + r.val * 154 + w.val by omega)

/-- The lanes of row `r`'s place. -/
theorem lane_mem {r : Fin 100} {c : Fin 256} {q : Fin 15880} (h : ix2 c q ∈ (laneRect r).set) :
    163 + r.val * 154 ≤ q.val ∧ q.val < 163 + r.val * 154 + 152 := by
  unfold laneRect at h
  exact Rect.mem_set_unit.mp h 1

/-- The canvas after the first `n` rows are stored holds row `r < n` at its place. -/
theorem pieces_row (x : Vec Ideal S1x256x15200 .f32) (n : ℕ) (h : n ≤ 100) (c : Fin 256) (r : Fin 100) (hr : r.val < n)
    (w : Fin 152) :
    View.canon (canvasPieces x n h) (ix2 c ⟨163 + r.val * 154 + w.val, by omega⟩)
      = x (ix3 0 c ⟨r.val * 152 + w.val, by omega⟩) := by
  induction n with
  | zero => omega
  | succ n ih =>
    by_cases e : r.val = n
    · obtain rfl : r = ⟨n, h⟩ := Fin.ext e
      rw [← lane_emb, canvasPieces]
      exact (View.canon_cons_emb _ _ _ _).trans (row_apply x _ c w)
    · rw [canvasPieces, View.canon_cons_of_not_mem, ih _ (by omega)]
      intro hm
      have := lane_mem (r := ⟨n, h⟩) hm
      dsimp only at this
      omega

/-- Off the rows' places the canvas stays zero. -/
theorem pieces_border (x : Vec Ideal S1x256x15200 .f32) (n : ℕ) (h : n ≤ 100) (c : Fin 256) (q : Fin 15880)
    (hq : ∀ r < 100, ∀ w < 152, q.val ≠ 163 + r * 154 + w) : View.canon (canvasPieces x n h) (ix2 c q) = 0 := by
  induction n with
  | zero =>
    rw [canvasPieces, View.canon_cons_unit_zero (by funext a; fin_cases a <;> rfl), fill_apply]
  | succ n ih =>
    rw [canvasPieces, View.canon_cons_of_not_mem, ih]
    intro hm
    have := lane_mem (r := ⟨n, h⟩) hm
    dsimp only at this
    exact hq n h (q.val - (163 + n * 154)) (by omega) (by omega)

/-- An image block as one image of the reference's layout: its pixel `(r, s)` is lane `152 r + s`. -/
def unflat (x : Vec Ideal S1x256x15200 .f32) (c : Fin 256) (r : Fin 100) (s : Fin 152) : EReal :=
  x (ix3 0 c ⟨r.val * 152 + s.val, by omega⟩)

/-- The canvas at the place of padded pixel `(R, S)`: zero on the border, the image's pixel `(R - 1, S - 1)` inside. -/
theorem canvas_apply (x : Vec Ideal S1x256x15200 .f32) (c : Fin 256) (R S : ℕ) (hR : R < 102) (hS : S < 154) :
    canvas x (ix2 c ⟨8 + R * 154 + S, by omega⟩)
      = if h : (1 ≤ R ∧ R < 101) ∧ (1 ≤ S ∧ S < 153) then unflat x c ⟨R - 1, by omega⟩ ⟨S - 1, by omega⟩ else 0 := by
  split
  · next h =>
    refine Eq.trans ?_ (pieces_row x 100 le_rfl c ⟨R - 1, by omega⟩ (by show R - 1 < 100; omega) ⟨S - 1, by omega⟩)
    refine congrArg (fun q => canvas x (ix2 c q)) (Fin.ext ?_)
    show 8 + R * 154 + S = 163 + (R - 1) * 154 + (S - 1)
    omega
  · next h =>
    refine pieces_border x 100 le_rfl c _ fun r hr w hw e => h ?_
    have e : 8 + R * 154 + S = 163 + r * 154 + w := e
    omega

/-- Tap `k`'s window for group `g`, at the lane of pixel `(rr, w)` of the group: the padded pixel that the tap reads. -/
theorem slab_apply (x : Vec Ideal S1x256x15200 .f32) (g : Fin 5) (k : Fin 9) (c : Fin 256) (rr : Fin 20) (w : Fin 152) :
    slabs (canvas x) g k (ix2 c ⟨1 + rr.val * 154 + w.val, by omega⟩)
      = canvas x (ix2 c ⟨8 + (g.val * 20 + rr.val + k.val / 3) * 154 + (w.val + k.val % 3), by omega⟩) := by
  show canvas x _ = _
  refine congrArg (canvas x) (funext fun a => Fin.ext ?_)
  fin_cases a
  · show 0 + 1 * c.val = c.val
    omega
  · show g.val * 3080 + 7 + k.val / 3 * 154 + k.val % 3 + 1 * (1 + rr.val * 154 + w.val)
      = 8 + (g.val * 20 + rr.val + k.val / 3) * 154 + (w.val + k.val % 3)
    omega

end Cert.Rpn.Kernel

end
-- ==== Proof.KernelValue.lean ====
/- What the kernel leaves in its two results, over the reals: the box array and the class array of the RPN head. -/
module

public import proofs.«01_k».proof.Proof.KernelOperands
public import proofs.«01_k».proof.Proof.KernelHead
public import proofs.«01_k».proof.Proof.KernelCanvas

@[expose] public section

noncomputable section

namespace Cert.Rpn.Kernel

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The image of point `t`. -/
def img (t : Fin cfg0.N) : Fin 4 := ⟨t.val / 5, by
  have : t.val < 20 := lt_of_lt_of_eq t.isLt N_0
  omega⟩

/-- The blocks' places: the images' go by image, -/
theorem index_0 : ∀ t : Fin cfg0.N, (cfg0.win 0).index t = ![t.val / 5, 0, 0] := by decide +kernel
/-- the operands' are fixed, -/
theorem index_1 : ∀ t : Fin cfg0.N, (cfg0.win 1).index t = ![0, 0, 0] := by decide +kernel
theorem index_2 : ∀ t : Fin cfg0.N, (cfg0.win 2).index t = ![0, 0] := by decide +kernel
theorem index_3 : ∀ t : Fin cfg0.N, (cfg0.win 3).index t = ![0, 0] := by decide +kernel
theorem index_4 : ∀ t : Fin cfg0.N, (cfg0.win 4).index t = ![0, 0] := by decide +kernel
/-- the results' go by image and group. -/
theorem index_5 : ∀ t : Fin cfg0.N, (cfg0.win 5).index t = ![t.val / 5, t.val % 5, 0] := by decide +kernel
theorem index_6 : ∀ t : Fin cfg0.N, (cfg0.win 6).index t = ![t.val / 5, t.val % 5, 0] := by decide +kernel

/-- Point `t`'s image block is its image, pixels in a row. -/
theorem imageBlock (t : Fin cfg0.N) (ch : Fin 256) (q : Fin 15200) :
    iblk m c 0 t (ix3 0 ch q) = V m c main_v0 (ix3 (img t) ch q) := by
  blk_ext [iblk, img, index_0 t]

/-- The other input blocks are their whole arrays. -/
theorem tapsBlock (t : Fin cfg0.N) (k : Fin 9) (o ch : Fin 256) :
    iblk m c 1 t (ix3 k o ch) = V m c main_v3 (ix3 k o ch) := by
  blk_ext [iblk, index_1 t]

theorem headBlock (t : Fin cfg0.N) (d : Fin 16) (o : Fin 256) :
    iblk m c 2 t (ix2 d o) = V m c main_v7 (ix2 d o) := by
  blk_ext [iblk, index_2 t]

theorem biasBlock (t : Fin cfg0.N) (o : Fin 256) : iblk m c 3 t (ix2 o 0) = V m c main_v11 (ix2 o 0) := by
  blk_ext [iblk, index_3 t]

theorem headBiasBlock (t : Fin cfg0.N) (d : Fin 16) : iblk m c 4 t (ix2 d 0) = V m c main_v10 (ix2 d 0) := by
  blk_ext [iblk, index_4 t]

/-- The arguments, as the problem's arrays. -/
def argX : Img := m ((c : Thread nD τ).loc main_arg0)
def argW : W3 := m ((c : Thread nD τ).loc main_arg1)
def argB : B3 := m ((c : Thread nD τ).loc main_arg2)
def argClsW : Vec Ideal ⟨4, ![3, 256, 1, 1]⟩ .f32 := m ((c : Thread nD τ).loc main_arg3)
def argClsB : Vec Ideal ⟨1, ![3]⟩ .f32 := m ((c : Thread nD τ).loc main_arg4)
def argBoxW : Vec Ideal ⟨4, ![12, 256, 1, 1]⟩ .f32 := m ((c : Thread nD τ).loc main_arg5)
def argBoxB : Vec Ideal ⟨1, ![12]⟩ .f32 := m ((c : Thread nD τ).loc main_arg6)

/-- The canvas's image is the point's image. -/
theorem unflat_image (t : Fin cfg0.N) (ch : Fin 256) (r : Fin 100) (s : Fin 152) :
    unflat (iblk m c 0 (imageStart t.val t.isLt)) ch r s = argX m c (ix4 (img t) ch r s) := by
  have e : img (imageStart t.val t.isLt) = img t := Fin.ext (by simp only [img, imageStart]; omega)
  rw [unflat, imageBlock, images_apply, e]
  refine congrArg (argX m c) (congrArg₂ (ix4 (img t) ch) (Fin.ext ?_) (Fin.ext ?_))
  · show (r.val * 152 + s.val) / 152 = r.val
    omega
  · show (r.val * 152 + s.val) % 152 = s.val
    omega

/-- The canvas is the padded image. -/
theorem canvasAt_apply (t : Fin cfg0.N) (ch : Fin 256) (R S : ℕ) (hR : R < 102) (hS : S < 154) :
    canvasAt m c t.val t.isLt (ix2 ch ⟨8 + R * 154 + S, by omega⟩) = padded (argX m c) (img t) ch R S := by
  rw [canvasAt, canvas_apply _ _ _ _ hR hS, padded]
  simp only [unflat_image]

/-- One tap's contraction at a pixel of the point's group is the tap of the convolution. -/
theorem tapSum_eq (t : Fin cfg0.N) (o : Fin 256) (p : Fin 3040) (k : Fin 9) :
    tapSum (iblk m c 1 t) (slabs (canvasAt m c t.val t.isLt) (grp t)) o (laneOf p) k
      = tap (argX m c) (argW m c) (img t) o ((grp t).val * 20 + p.val / 152) (p.val % 152) ⟨k.val / 3, by omega⟩
        ⟨k.val % 3, by omega⟩ := by
  have hg := (grp t).isLt
  refine Finset.sum_congr rfl fun ch _ => congrArg₂ (· * ·) ?_ ?_
  · rw [tapsBlock, taps_apply]
    rfl
  · refine (slab_apply _ (grp t) k ch ⟨p.val / 152, by omega⟩ ⟨p.val % 152, by omega⟩).trans ?_
    exact canvasAt_apply m c t ch ((grp t).val * 20 + p.val / 152 + k.val / 3) (p.val % 152 + k.val % 3) (by omega) (by omega)

/-- The hidden layer at a pixel of the point's group. -/
theorem hiddenAt_eq (t : Fin cfg0.N) (o : Fin 256) (p : Fin 3040) :
    hiddenAt (iblk m c 1 t) (slabs (canvasAt m c t.val t.isLt) (grp t)) (iblk m c 3 t) o (laneOf p)
      = hidden (argX m c) (argW m c) (argB m c) (img t) o ((grp t).val * 20 + p.val / 152) (p.val % 152) := by
  unfold hiddenAt
  simp only [tapSum_eq]
  rw [biasBlock, bias_apply]
  rfl

/-- The box block that point `t` leaves, at an element. -/
theorem boxAt_apply (t : Fin cfg0.N) (p : Fin 3040) (d : Fin 12) :
    boxAt m c t (ix3 0 p d) = head (argX m c) (argW m c) (argB m c) (fun o => argBoxW m c (ix4 d o 0 0))
      (argBoxB m c (ix1 d)) (img t) ((grp t).val * 20 + p.val / 152) (p.val % 152) := by
  rw [boxAt, boxOf_apply, headBiasBlock, boxBias_apply, head]
  refine congrArg₂ (· + ·) (Finset.sum_congr rfl fun o _ => ?_) rfl
  rw [hiddenAt_eq, headBlock, boxWeights_apply]
  rfl

/-- The class block that point `t` leaves, at an element. -/
theorem clsAt_apply (t : Fin cfg0.N) (p : Fin 3040) (d : Fin 3) :
    clsAt m c t (ix3 0 p d) = head (argX m c) (argW m c) (argB m c) (fun o => argClsW m c (ix4 d o 0 0))
      (argClsB m c (ix1 d)) (img t) ((grp t).val * 20 + p.val / 152) (p.val % 152) := by
  rw [clsAt, clsOf_apply, headBiasBlock, clsBias_apply, head]
  refine congrArg₂ (· + ·) (Finset.sum_congr rfl fun o _ => ?_) rfl
  rw [hiddenAt_eq, headBlock, clsWeights_apply]
  rfl

end Cert.Rpn.Kernel

end
-- ==== Proof.KernelResults.lean ====
/- The kernel's two results, over the reals: the box array and the class array of the RPN head, reshaped. -/
module

public import proofs.«01_k».proof.Proof.KernelValue

@[expose] public section

noncomputable section

namespace Cert.Rpn.Kernel

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ) (c : Dev nD)

/-- The box array of the arguments. -/
def boxAll : Vec Ideal S4x15200x12 .f32 := box (argX m c) (argW m c) (argB m c) (argBoxW m c) (argBoxB m c)

/-- The class array of the arguments. -/
def clsAll : Vec Ideal S4x15200x3 .f32 := cls (argX m c) (argW m c) (argB m c) (argClsW m c) (argClsB m c)

/-- Where point `t`'s box block lies in its array: its image, from the group's first pixel on. -/
theorem box_emb (t : Fin cfg0.N) (p : Fin 3040) (d : Fin 12) :
    ((cfg0.win 5).blk t).view.emb (ix3 0 p d)
      = ix3 (img t) ⟨(grp t).val * 3040 + p.val, by have := (grp t).isLt; omega⟩ d := by
  blk_ext [index_5 t, img, grp]

/-- The class block likewise. -/
theorem cls_emb (t : Fin cfg0.N) (p : Fin 3040) (d : Fin 3) :
    ((cfg0.win 6).blk t).view.emb (ix3 0 p d)
      = ix3 (img t) ⟨(grp t).val * 3040 + p.val, by have := (grp t).isLt; omega⟩ d := by
  blk_ext [index_6 t, img, grp]

/-- Group `g`'s pixel `p` in the whole image: its row and its column. -/
theorem pixel_row (g : ℕ) (p : ℕ) : (g * 3040 + p) / 152 = g * 20 + p / 152 := by omega
theorem pixel_column (g : ℕ) (p : ℕ) : (g * 3040 + p) % 152 = p % 152 := by omega

/-- After the last point the first output array is the box array. -/
theorem boxArray : (dats m 0 c).arrAt 5 cfg0.N = boxAll m c := by
  refine (dats m 0 c).arrAt_eq_of_covers 5 _ (by decide +kernel) fun t hf y => ?_
  blk_simp
  rw [after_5]
  obtain ⟨p, d, rfl⟩ : ∃ (p : Fin 3040) (d : Fin 12), y = ix3 0 p d :=
    ⟨y 1, y 2, by funext a; fin_cases a <;> first | exact Fin.ext (Nat.lt_one_iff.mp (y 0).isLt) | rfl⟩
  refine (boxAt_apply m c t p d).trans ?_
  rw [box_emb, ← pixel_row, ← pixel_column (grp t).val p.val]
  rfl

/-- And the second the class array. -/
theorem clsArray : (dats m 0 c).arrAt 6 cfg0.N = clsAll m c := by
  refine (dats m 0 c).arrAt_eq_of_covers 6 _ (by decide +kernel) fun t hf y => ?_
  blk_simp
  rw [after_6]
  obtain ⟨p, d, rfl⟩ : ∃ (p : Fin 3040) (d : Fin 3), y = ix3 0 p d :=
    ⟨y 1, y 2, by funext a; fin_cases a <;> first | exact Fin.ext (Nat.lt_one_iff.mp (y 0).isLt) | rfl⟩
  refine (clsAt_apply m c t p d).trans ?_
  rw [cls_emb, ← pixel_row, ← pixel_column (grp t).val p.val]
  rfl

/-- What the first result holds at the end: the box array, four numbers to a row. -/
theorem boxResult : Pipeline.afterTail₀ cfgs (dats m) 0 (V0 m) [hostOps1] c main_v13
    = shapeCast S4x45600x4 (boxAll m c) shapeCasts_S4x15200x12_S4x45600x4 := by
  unfold Pipeline.afterTail₀
  after_results
  rw [← boxArray]
  exact congrArg (fun v => shapeCast S4x45600x4 v shapeCasts_S4x15200x12_S4x45600x4)
    (Pipeline.withArrays_arr spec0 (by decide) c (V0 m c) (fun w => (dats m 0 c).arrAt w cfg0.N) 5)

/-- And the second: the class array, one number to a row. -/
theorem clsResult : Pipeline.afterTail₀ cfgs (dats m) 0 (V0 m) [hostOps1] c main_v14
    = shapeCast S4x45600x1 (clsAll m c) shapeCasts_S4x15200x3_S4x45600x1 := by
  unfold Pipeline.afterTail₀
  after_results
  rw [← clsArray]
  exact congrArg (fun v => shapeCast S4x45600x1 v shapeCasts_S4x15200x3_S4x45600x1)
    (Pipeline.withArrays_arr spec0 (by decide) c (V0 m c) (fun w => (dats m 0 c).arrAt w cfg0.N) 6)

/-- THE VALUES: every fair execution ends with the two results at the box and class arrays, reshaped, and the arguments
    as they were. -/
theorem values (ρ : Dev nD → PrngReg) :
    θ_run defs (onTc (τ := τ) (main (F := Ideal))) ⟨m, fun _ => 0, ρ⟩ (fun r => ∀ c : Dev nD,
      r.2.mem ((c.tc : Thread nD τ).loc main_v13) = shapeCast S4x45600x4 (boxAll m c) shapeCasts_S4x15200x12_S4x45600x4
      ∧ r.2.mem ((c.tc : Thread nD τ).loc main_v14) = shapeCast S4x45600x1 (clsAll m c) shapeCasts_S4x15200x3_S4x45600x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r h c => ⟨((h.2.1 c).2 main_v13 (by decide)).trans (boxResult m c),
      ((h.2.1 c).2 main_v14 (by decide)).trans (clsResult m c), h.1 c⟩)
    (θ_run_and (unchanged m ρ) (run m ρ))

end Cert.Rpn.Kernel

end
-- ==== Proof.RefResults.lean ====
/- The reference's two results, from a memory that holds the kernel's arguments: the box array and the class array of
   those arguments, reshaped. -/
module

public import proofs.«01_k».proof.Proof.RefRead
public import proofs.«01_k».proof.Proof.KernelResults
public import proofs.«01_k».proof.Proof.Gen.ReferenceIdeal.Run

@[expose] public section

noncomputable section

namespace Cert.Rpn.Ref

open Idealize.ShloMosaic Idealize.ShloMosaic.TcCoe
open Cert.Rpn.Kernel (boxAll clsAll)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on core `c`. -/
def SameArgs : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)

/-- The reference's first result is the box array of the kernel's arguments. -/
theorem box_result (h : SameArgs m m' c) : Cert.ReferenceIdeal.Value.res_main_v79 m' c
    = shapeCast Cert.KernelIdeal.S4x45600x4 (boxAll m c) Cert.KernelIdeal.Gen.facts.shapeCasts_S4x15200x12_S4x45600x4 := by
  obtain ⟨h0, h1, h2, -, -, h5, h6⟩ := h
  rw [Cert.ReferenceIdeal.Read.val_main_v79_eq, h0, h1, h2, h5, h6]
  exact box_eq _ _ _ _ _ _

/-- The reference's second result is the class array of the kernel's arguments. -/
theorem cls_result (h : SameArgs m m' c) : Cert.ReferenceIdeal.Value.res_main_v81 m' c
    = shapeCast Cert.KernelIdeal.S4x45600x1 (clsAll m c) Cert.KernelIdeal.Gen.facts.shapeCasts_S4x15200x3_S4x45600x1 := by
  obtain ⟨h0, h1, h2, h3, h4, -, -⟩ := h
  rw [Cert.ReferenceIdeal.Read.val_main_v81_eq, h0, h1, h2, h3, h4]
  exact cls_eq _ _ _ _ _ _

end Cert.Rpn.Ref

end
-- ==== Proof.lean ====
/- The proof of the claim: each program runs to its end with its arguments unchanged and every counter at zero, the
   idealized kernel is the printed one with no rewrites, and over the reals the kernel's two results are the
   reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelSame
public import proofs.«01_k».proof.Proof.Gen.ReferenceIdeal
public import proofs.«01_k».proof.Proof.Gen.ReferenceIdeal.Run
public import proofs.«01_k».proof.Proof.RefResults
public import proofs.«01_k».proof.Proof.KernelResults
public import Idealize.ShloMosaic.Adequacy
public import Idealize.ShloMosaic.Init

@[expose] public section

noncomputable section

namespace Cert.Proof

open Idealize.ShloMosaic Idealize.SL.Sem Cert.Kernel

/-- Over the reals, from equal arguments, both programs end with the same two results: the box array and the class array
    of the region-proposal head, reshaped. -/
theorem results_agree : Cert.algebraic_KernelIdeal_ReferenceIdeal (hKernelIdeal := Cert.KernelIdeal.Gen.facts)
    (hReferenceIdeal := Cert.ReferenceIdeal.Gen.facts) := fun m g m' g' _ same =>
  ⟨_, _, Cert.Rpn.Kernel.values m g,
    (θ_run _ _ _).mono (fun _ h c => ⟨(h c).1.trans (Cert.Rpn.Ref.box_result m m' c (same c)),
      (h c).2.1.trans (Cert.Rpn.Ref.cls_result m m' c (same c)), (h c).2.2⟩) (Cert.ReferenceIdeal.Value.run m' g')⟩

/-- Every claim of this certificate. -/
theorem claim : Cert.Claim := ⟨Cert.Kernel.Gen.facts, Cert.KernelIdeal.Gen.facts, Cert.ReferenceIdeal.Gen.facts,
  Cert.Rpn.Kernel.frame_printed, fun m ρ _ => Cert.Rpn.Kernel.frame_holds m ρ,
  fun m ρ _ => (θ_run _ _ _).mono (fun r h => ⟨fun c => (h c).2.2, Idealize.ShloMosaic.sem_eq_zero_of_no_sems (by decide) r.2⟩) (Cert.ReferenceIdeal.Value.run m ρ), trivial,
  results_agree⟩

end Cert.Proof

end
